-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 2048, 32, 128]⟩ ⟨4, ![1, 2048, 64, 128]⟩ (Layout.meshBlock [2, 4, 4] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.blockN ⟨3, ![1, 1024, 8192]⟩ ⟨3, ![1, 2048, 8192]⟩ (Layout.meshBlock [2, 4, 4] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x32x128 : Shape := ⟨4, ![1, 2048, 32, 128]⟩
abbrev S4096x8192 : Shape := ⟨2, ![4096, 8192]⟩
abbrev S1x1024x8192 : Shape := ⟨3, ![1, 1024, 8192]⟩
abbrev S32x1024x256 : Shape := ⟨3, ![32, 1024, 256]⟩
abbrev S2048x4096 : Shape := ⟨2, ![2048, 4096]⟩
abbrev S2x4096x256 : Shape := ⟨3, ![2, 4096, 256]⟩
abbrev S5x1024x256 : Shape := ⟨3, ![5, 1024, 256]⟩
abbrev S2x1024x256 : Shape := ⟨3, ![2, 1024, 256]⟩
abbrev S32 : Shape := ⟨1, ![32]⟩
abbrev S2 : Shape := ⟨1, ![2]⟩
abbrev S1 : Shape := ⟨1, ![1]⟩
abbrev S_ : Shape := ⟨0, ![]⟩
abbrev S2048x128 : Shape := ⟨2, ![2048, 128]⟩
abbrev S1x2048x1x128 : Shape := ⟨4, ![1, 2048, 1, 128]⟩
abbrev S1x4096x256 : Shape := ⟨3, ![1, 4096, 256]⟩
abbrev S4096x256 : Shape := ⟨2, ![4096, 256]⟩
abbrev S1x1024x256 : Shape := ⟨3, ![1, 1024, 256]⟩
abbrev S1024x256 : Shape := ⟨2, ![1024, 256]⟩
abbrev S1024x4096 : Shape := ⟨2, ![1024, 4096]⟩

abbrev nBuf : Space → Nat
  | .hbm => 4
  | .vmem => 6
  | .smem => 0
  | _ => 0

abbrev bufTy : (tb : Table) → Fin (tcTables nBuf tb) → BufTy
  | .hbm, ⟨0, _⟩ => ⟨S1x2048x32x128, .f32⟩
  | .hbm, ⟨1, _⟩ => ⟨S4096x8192, .f32⟩
  | .hbm, ⟨2, _⟩ => ⟨S1x1024x8192, .f32⟩
  | .hbm, ⟨3, _⟩ => ⟨S32x1024x256, .f32⟩
  | .local _ .vmem, ⟨0, _⟩ => ⟨S2048x4096, .f32⟩
  | .local _ .vmem, ⟨1, _⟩ => ⟨S2x4096x256, .f32⟩
  | .local _ .vmem, ⟨2, _⟩ => ⟨S5x1024x256, .f32⟩
  | .local _ .vmem, ⟨3, _⟩ => ⟨S2x1024x256, .f32⟩
  | .local _ .vmem, ⟨4, _⟩ => ⟨S2x1024x256, .f32⟩
  | .local _ .vmem, ⟨5, _⟩ => ⟨S2x1024x256, .f32⟩
  | _, _ => ⟨S1x2048x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_170 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_169 : BitVec 32 := 16#32
  let v171 : BitVec 32 := Scalar.muli v9 c16_i32_169
  let v172 : BitVec 32 := Scalar.addi c0_i32_170 v171
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_171 : BitVec 32 := 4#32
  let v173 : BitVec 32 := Scalar.muli v5 c4_i32_171
  let v174 : BitVec 32 := Scalar.addi v172 v173
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v175 : BitVec 32 := Scalar.muli v8 c1_i32_172
  let v176 : BitVec 32 := Scalar.addi v174 v175
  v176.toNat
@[reducible] def k0_t1_loop : Scf.Loop 32 :=
  let c0_i32_407 : BitVec 32 := 0#32
  let c32_i32 : BitVec 32 := 32#32
  let v345 : BitVec 32 := Scalar.addi c0_i32_407 c32_i32
  let c1_i32_408 : BitVec 32 := 1#32
  ⟨c0_i32_407, v345, c1_i32_408⟩
def k0_cond1 (k0_t1 : Fin k0_t1_loop.trips) : BitVec 1 :=
  let c0_i32_407 : BitVec 32 := 0#32
  let c1_i32_408 : BitVec 32 := 1#32
  let arg16 : BitVec 32 := Scf.iv c0_i32_407 c1_i32_408 k0_t1
  let c1_i32_444 : BitVec 32 := 1#32
  let v371 : BitVec 32 := Scalar.addi arg16 c1_i32_444
  let c32_i32_445 : BitVec 32 := 32#32
  let v372 : BitVec 1 := Scalar.cmpi .slt v371 c32_i32_445
  let v373 : BitVec 32 := Scalar.extui v372
  let c0_i32_446 : BitVec 32 := 0#32
  let v374 : BitVec 1 := Scalar.cmpi .ne v373 c0_i32_446
  v374

def k0_off1 (k0_t1 : Fin k0_t1_loop.trips) : Fin 1 → Nat :=
  let c0_i32_407 : BitVec 32 := 0#32
  let c1_i32_408 : BitVec 32 := 1#32
  let arg16 : BitVec 32 := Scf.iv c0_i32_407 c1_i32_408 k0_t1
  let c1_i32_523 : BitVec 32 := 1#32
  let v504 : BitVec 32 := Scalar.addi arg16 c1_i32_523
  let c2_i32_531 : BitVec 32 := 2#32
  let c0_i32_532 : BitVec 32 := 0#32
  let v516 : BitVec 1 := Scalar.cmpi .eq c2_i32_531 c0_i32_532
  let c1_i32_533 : BitVec 32 := 1#32
  let v517 : BitVec 32 := Scalar.select v516 c1_i32_533 c2_i32_531
  let v518 : BitVec 32 := Scalar.remsi v504 v517
  let c0_i32_535 : BitVec 32 := 0#32
  let v520 : BitVec 1 := Scalar.cmpi .slt v518 c0_i32_535
  let c0_i32_536 : BitVec 32 := 0#32
  let v521 : BitVec 1 := Scalar.cmpi .slt v517 c0_i32_536
  let v522 : BitVec 1 := Scalar.xori v520 v521
  let c0_i32_534 : BitVec 32 := 0#32
  let v519 : BitVec 1 := Scalar.cmpi .ne v518 c0_i32_534
  let v523 : BitVec 1 := Scalar.andi v522 v519
  let v524 : BitVec 32 := Scalar.addi v518 v517
  let v525 : BitVec 32 := Scalar.select v523 v524 v518
  ![v525.toNat]
def k0_off2 (k0_t1 : Fin k0_t1_loop.trips) : Fin 3 → Nat :=
  let c0_i32_407 : BitVec 32 := 0#32
  let c1_i32_408 : BitVec 32 := 1#32
  let arg16 : BitVec 32 := Scf.iv c0_i32_407 c1_i32_408 k0_t1
  let c1_i32_523 : BitVec 32 := 1#32
  let v504 : BitVec 32 := Scalar.addi arg16 c1_i32_523
  let c2_i32_525 : BitVec 32 := 2#32
  let c0_i32_526 : BitVec 32 := 0#32
  let v506 : BitVec 1 := Scalar.cmpi .eq c2_i32_525 c0_i32_526
  let c1_i32_527 : BitVec 32 := 1#32
  let v507 : BitVec 32 := Scalar.select v506 c1_i32_527 c2_i32_525
  let v508 : BitVec 32 := Scalar.remsi v504 v507
  let c0_i32_529 : BitVec 32 := 0#32
  let v510 : BitVec 1 := Scalar.cmpi .slt v508 c0_i32_529
  let c0_i32_530 : BitVec 32 := 0#32
  let v511 : BitVec 1 := Scalar.cmpi .slt v507 c0_i32_530
  let v512 : BitVec 1 := Scalar.xori v510 v511
  let c0_i32_528 : BitVec 32 := 0#32
  let v509 : BitVec 1 := Scalar.cmpi .ne v508 c0_i32_528
  let v513 : BitVec 1 := Scalar.andi v512 v509
  let v514 : BitVec 32 := Scalar.addi v508 v507
  let v515 : BitVec 32 := Scalar.select v513 v514 v508
  let c0_i32_537 : BitVec 32 := 0#32
  let c0_i32_538 : BitVec 32 := 0#32
  ![v515.toNat, 0, 0]
def k0_off3 (k0_t1 : Fin k0_t1_loop.trips) : Fin 2 → Nat :=
  let c0_i32_539 : BitVec 32 := 0#32
  let c0_i32_407 : BitVec 32 := 0#32
  let c1_i32_408 : BitVec 32 := 1#32
  let arg16 : BitVec 32 := Scf.iv c0_i32_407 c1_i32_408 k0_t1
  let c1_i32_523 : BitVec 32 := 1#32
  let v504 : BitVec 32 := Scalar.addi arg16 c1_i32_523
  let c256_i32_524 : BitVec 32 := 256#32
  let v505 : BitVec 32 := Scalar.muli v504 c256_i32_524
  ![0, v505.toNat]
def k0_cond2 (k0_t1 : Fin k0_t1_loop.trips) : BitVec 1 :=
  let c0_i32_407 : BitVec 32 := 0#32
  let c1_i32_408 : BitVec 32 := 1#32
  let arg16 : BitVec 32 := Scf.iv c0_i32_407 c1_i32_408 k0_t1
  let c4_i32_447 : BitVec 32 := 4#32
  let v375 : BitVec 1 := Scalar.cmpi .sge arg16 c4_i32_447
  let v376 : BitVec 32 := Scalar.extui v375
  let c0_i32_448 : BitVec 32 := 0#32
  let v377 : BitVec 1 := Scalar.cmpi .ne v376 c0_i32_448
  v377

def k0_off4 (k0_t1 : Fin k0_t1_loop.trips) : Fin 1 → Nat :=
  let c0_i32_407 : BitVec 32 := 0#32
  let c1_i32_408 : BitVec 32 := 1#32
  let arg16 : BitVec 32 := Scf.iv c0_i32_407 c1_i32_408 k0_t1
  let c4_i32_523 : BitVec 32 := 4#32
  let v504 : BitVec 32 := Scalar.subi arg16 c4_i32_523
  ![v504.toNat]
def k0_off5 (k0_t1 : Fin k0_t1_loop.trips) : Fin 3 → Nat :=
  let c0_i32_407 : BitVec 32 := 0#32
  let c1_i32_408 : BitVec 32 := 1#32
  let arg16 : BitVec 32 := Scf.iv c0_i32_407 c1_i32_408 k0_t1
  let c4_i32_523 : BitVec 32 := 4#32
  let v504 : BitVec 32 := Scalar.subi arg16 c4_i32_523
  let c0_i32_540 : BitVec 32 := 0#32
  let c0_i32_541 : BitVec 32 := 0#32
  ![v504.toNat, 0, 0]
def k0_off6 (k0_t1 : Fin k0_t1_loop.trips) : Fin 3 → Nat :=
  let c0_i32_407 : BitVec 32 := 0#32
  let c1_i32_408 : BitVec 32 := 1#32
  let arg16 : BitVec 32 := Scf.iv c0_i32_407 c1_i32_408 k0_t1
  let c4_i32_523 : BitVec 32 := 4#32
  let v504 : BitVec 32 := Scalar.subi arg16 c4_i32_523
  let c2_i32_524 : BitVec 32 := 2#32
  let c0_i32_525 : BitVec 32 := 0#32
  let v505 : BitVec 1 := Scalar.cmpi .eq c2_i32_524 c0_i32_525
  let c1_i32_526 : BitVec 32 := 1#32
  let v506 : BitVec 32 := Scalar.select v505 c1_i32_526 c2_i32_524
  let v507 : BitVec 32 := Scalar.remsi v504 v506
  let c0_i32_528 : BitVec 32 := 0#32
  let v509 : BitVec 1 := Scalar.cmpi .slt v507 c0_i32_528
  let c0_i32_529 : BitVec 32 := 0#32
  let v510 : BitVec 1 := Scalar.cmpi .slt v506 c0_i32_529
  let v511 : BitVec 1 := Scalar.xori v509 v510
  let c0_i32_527 : BitVec 32 := 0#32
  let v508 : BitVec 1 := Scalar.cmpi .ne v507 c0_i32_527
  let v512 : BitVec 1 := Scalar.andi v511 v508
  let v513 : BitVec 32 := Scalar.addi v507 v506
  let v514 : BitVec 32 := Scalar.select v512 v513 v507
  let c0_i32_542 : BitVec 32 := 0#32
  let c0_i32_543 : BitVec 32 := 0#32
  ![v514.toNat, 0, 0]
def k0_off7 (k0_t1 : Fin k0_t1_loop.trips) : Fin 1 → Nat :=
  let c0_i32_407 : BitVec 32 := 0#32
  let c1_i32_408 : BitVec 32 := 1#32
  let arg16 : BitVec 32 := Scf.iv c0_i32_407 c1_i32_408 k0_t1
  let c4_i32_523 : BitVec 32 := 4#32
  let v504 : BitVec 32 := Scalar.subi arg16 c4_i32_523
  let c2_i32_550 : BitVec 32 := 2#32
  let c0_i32_551 : BitVec 32 := 0#32
  let v547 : BitVec 1 := Scalar.cmpi .eq c2_i32_550 c0_i32_551
  let c1_i32_552 : BitVec 32 := 1#32
  let v548 : BitVec 32 := Scalar.select v547 c1_i32_552 c2_i32_550
  let v549 : BitVec 32 := Scalar.remsi v504 v548
  let c0_i32_554 : BitVec 32 := 0#32
  let v551 : BitVec 1 := Scalar.cmpi .slt v549 c0_i32_554
  let c0_i32_555 : BitVec 32 := 0#32
  let v552 : BitVec 1 := Scalar.cmpi .slt v548 c0_i32_555
  let v553 : BitVec 1 := Scalar.xori v551 v552
  let c0_i32_553 : BitVec 32 := 0#32
  let v550 : BitVec 1 := Scalar.cmpi .ne v549 c0_i32_553
  let v554 : BitVec 1 := Scalar.andi v553 v550
  let v555 : BitVec 32 := Scalar.addi v549 v548
  let v556 : BitVec 32 := Scalar.select v554 v555 v549
  ![v556.toNat]
def k0_off8 (k0_t1 : Fin k0_t1_loop.trips) : Fin 1 → Nat :=
  let c0_i32_407 : BitVec 32 := 0#32
  let c1_i32_408 : BitVec 32 := 1#32
  let arg16 : BitVec 32 := Scf.iv c0_i32_407 c1_i32_408 k0_t1
  let c2_i32_456 : BitVec 32 := 2#32
  let c0_i32_457 : BitVec 32 := 0#32
  let v389 : BitVec 1 := Scalar.cmpi .eq c2_i32_456 c0_i32_457
  let c1_i32_458 : BitVec 32 := 1#32
  let v390 : BitVec 32 := Scalar.select v389 c1_i32_458 c2_i32_456
  let v391 : BitVec 32 := Scalar.remsi arg16 v390
  let c0_i32_460 : BitVec 32 := 0#32
  let v393 : BitVec 1 := Scalar.cmpi .slt v391 c0_i32_460
  let c0_i32_461 : BitVec 32 := 0#32
  let v394 : BitVec 1 := Scalar.cmpi .slt v390 c0_i32_461
  let v395 : BitVec 1 := Scalar.xori v393 v394
  let c0_i32_459 : BitVec 32 := 0#32
  let v392 : BitVec 1 := Scalar.cmpi .ne v391 c0_i32_459
  let v396 : BitVec 1 := Scalar.andi v395 v392
  let v397 : BitVec 32 := Scalar.addi v391 v390
  let v398 : BitVec 32 := Scalar.select v396 v397 v391
  ![v398.toNat]
def k0_off9 (k0_t1 : Fin k0_t1_loop.trips) : Fin 3 → Nat :=
  let c0_i32_407 : BitVec 32 := 0#32
  let c1_i32_408 : BitVec 32 := 1#32
  let arg16 : BitVec 32 := Scf.iv c0_i32_407 c1_i32_408 k0_t1
  let c2_i32_450 : BitVec 32 := 2#32
  let c0_i32_451 : BitVec 32 := 0#32
  let v379 : BitVec 1 := Scalar.cmpi .eq c2_i32_450 c0_i32_451
  let c1_i32_452 : BitVec 32 := 1#32
  let v380 : BitVec 32 := Scalar.select v379 c1_i32_452 c2_i32_450
  let v381 : BitVec 32 := Scalar.remsi arg16 v380
  let c0_i32_454 : BitVec 32 := 0#32
  let v383 : BitVec 1 := Scalar.cmpi .slt v381 c0_i32_454
  let c0_i32_455 : BitVec 32 := 0#32
  let v384 : BitVec 1 := Scalar.cmpi .slt v380 c0_i32_455
  let v385 : BitVec 1 := Scalar.xori v383 v384
  let c0_i32_453 : BitVec 32 := 0#32
  let v382 : BitVec 1 := Scalar.cmpi .ne v381 c0_i32_453
  let v386 : BitVec 1 := Scalar.andi v385 v382
  let v387 : BitVec 32 := Scalar.addi v381 v380
  let v388 : BitVec 32 := Scalar.select v386 v387 v381
  let c0_i32_462 : BitVec 32 := 0#32
  let c0_i32_463 : BitVec 32 := 0#32
  ![v388.toNat, 0, 0]
def k0_off10 (k0_t1 : Fin k0_t1_loop.trips) : Fin 2 → Nat :=
  let c0_i32_464 : BitVec 32 := 0#32
  let c0_i32_407 : BitVec 32 := 0#32
  let c1_i32_408 : BitVec 32 := 1#32
  let arg16 : BitVec 32 := Scf.iv c0_i32_407 c1_i32_408 k0_t1
  let c256_i32_449 : BitVec 32 := 256#32
  let v378 : BitVec 32 := Scalar.muli arg16 c256_i32_449
  ![0, v378.toNat]
def k0_off11 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32_174 : BitVec 32 := 1024#32
  let v177 : BitVec 32 := Scalar.muli v2 c1024_i32_174
  let v404 : Index := Scalar.indexCast v177
  let c0 : Index := 0#32
  ![v404.toNat, 0]
def k0_off12 (k0_t1 : Fin k0_t1_loop.trips) : Fin 3 → Nat :=
  let c0_i32_407 : BitVec 32 := 0#32
  let c1_i32_408 : BitVec 32 := 1#32
  let arg16 : BitVec 32 := Scf.iv c0_i32_407 c1_i32_408 k0_t1
  let c2_i32_465 : BitVec 32 := 2#32
  let c0_i32_466 : BitVec 32 := 0#32
  let v406 : BitVec 1 := Scalar.cmpi .eq c2_i32_465 c0_i32_466
  let c1_i32_467 : BitVec 32 := 1#32
  let v407 : BitVec 32 := Scalar.select v406 c1_i32_467 c2_i32_465
  let v408 : BitVec 32 := Scalar.remsi arg16 v407
  let c0_i32_469 : BitVec 32 := 0#32
  let v410 : BitVec 1 := Scalar.cmpi .slt v408 c0_i32_469
  let c0_i32_470 : BitVec 32 := 0#32
  let v411 : BitVec 1 := Scalar.cmpi .slt v407 c0_i32_470
  let v412 : BitVec 1 := Scalar.xori v410 v411
  let c0_i32_468 : BitVec 32 := 0#32
  let v409 : BitVec 1 := Scalar.cmpi .ne v408 c0_i32_468
  let v413 : BitVec 1 := Scalar.andi v412 v409
  let v414 : BitVec 32 := Scalar.addi v408 v407
  let v415 : BitVec 32 := Scalar.select v413 v414 v408
  let v416 : Index := Scalar.indexCast v415
  let c0_471 : Index := 0#32
  let c0_472 : Index := 0#32
  ![v416.toNat, 0, 0]
def k0_off13 (k0_t1 : Fin k0_t1_loop.trips) : Fin 3 → Nat :=
  let c0_i32_407 : BitVec 32 := 0#32
  let c1_i32_408 : BitVec 32 := 1#32
  let arg16 : BitVec 32 := Scf.iv c0_i32_407 c1_i32_408 k0_t1
  let c5_i32_473 : BitVec 32 := 5#32
  let c0_i32_474 : BitVec 32 := 0#32
  let v420 : BitVec 1 := Scalar.cmpi .eq c5_i32_473 c0_i32_474
  let c1_i32_475 : BitVec 32 := 1#32
  let v421 : BitVec 32 := Scalar.select v420 c1_i32_475 c5_i32_473
  let v422 : BitVec 32 := Scalar.remsi arg16 v421
  let c0_i32_477 : BitVec 32 := 0#32
  let v424 : BitVec 1 := Scalar.cmpi .slt v422 c0_i32_477
  let c0_i32_478 : BitVec 32 := 0#32
  let v425 : BitVec 1 := Scalar.cmpi .slt v421 c0_i32_478
  let v426 : BitVec 1 := Scalar.xori v424 v425
  let c0_i32_476 : BitVec 32 := 0#32
  let v423 : BitVec 1 := Scalar.cmpi .ne v422 c0_i32_476
  let v427 : BitVec 1 := Scalar.andi v426 v423
  let v428 : BitVec 32 := Scalar.addi v422 v421
  let v429 : BitVec 32 := Scalar.select v427 v428 v422
  let v430 : Index := Scalar.indexCast v429
  let c0_479 : Index := 0#32
  let c0_480 : Index := 0#32
  ![v430.toNat, 0, 0]
def k0_cond3 (k0_t1 : Fin k0_t1_loop.trips) : BitVec 1 :=
  let c0_i32_407 : BitVec 32 := 0#32
  let c1_i32_408 : BitVec 32 := 1#32
  let arg16 : BitVec 32 := Scf.iv c0_i32_407 c1_i32_408 k0_t1
  let c2_i32_481 : BitVec 32 := 2#32
  let v434 : BitVec 1 := Scalar.cmpi .sge arg16 c2_i32_481
  let v435 : BitVec 32 := Scalar.extui v434
  let c0_i32_482 : BitVec 32 := 0#32
  let v436 : BitVec 1 := Scalar.cmpi .ne v435 c0_i32_482
  v436

def k0_off14 (k0_t1 : Fin k0_t1_loop.trips) : Fin 1 → Nat :=
  let c0_i32_407 : BitVec 32 := 0#32
  let c1_i32_408 : BitVec 32 := 1#32
  let arg16 : BitVec 32 := Scf.iv c0_i32_407 c1_i32_408 k0_t1
  let c2_i32_523 : BitVec 32 := 2#32
  let v504 : BitVec 32 := Scalar.subi arg16 c2_i32_523
  let c2_i32_530 : BitVec 32 := 2#32
  let c0_i32_531 : BitVec 32 := 0#32
  let v515 : BitVec 1 := Scalar.cmpi .eq c2_i32_530 c0_i32_531
  let c1_i32_532 : BitVec 32 := 1#32
  let v516 : BitVec 32 := Scalar.select v515 c1_i32_532 c2_i32_530
  let v517 : BitVec 32 := Scalar.remsi v504 v516
  let c0_i32_534 : BitVec 32 := 0#32
  let v519 : BitVec 1 := Scalar.cmpi .slt v517 c0_i32_534
  let c0_i32_535 : BitVec 32 := 0#32
  let v520 : BitVec 1 := Scalar.cmpi .slt v516 c0_i32_535
  let v521 : BitVec 1 := Scalar.xori v519 v520
  let c0_i32_533 : BitVec 32 := 0#32
  let v518 : BitVec 1 := Scalar.cmpi .ne v517 c0_i32_533
  let v522 : BitVec 1 := Scalar.andi v521 v518
  let v523 : BitVec 32 := Scalar.addi v517 v516
  let v524 : BitVec 32 := Scalar.select v522 v523 v517
  ![v524.toNat]
def k0_off15 (k0_t1 : Fin k0_t1_loop.trips) : Fin 3 → Nat :=
  let c0_i32_407 : BitVec 32 := 0#32
  let c1_i32_408 : BitVec 32 := 1#32
  let arg16 : BitVec 32 := Scf.iv c0_i32_407 c1_i32_408 k0_t1
  let c2_i32_523 : BitVec 32 := 2#32
  let v504 : BitVec 32 := Scalar.subi arg16 c2_i32_523
  let c2_i32_524 : BitVec 32 := 2#32
  let c0_i32_525 : BitVec 32 := 0#32
  let v505 : BitVec 1 := Scalar.cmpi .eq c2_i32_524 c0_i32_525
  let c1_i32_526 : BitVec 32 := 1#32
  let v506 : BitVec 32 := Scalar.select v505 c1_i32_526 c2_i32_524
  let v507 : BitVec 32 := Scalar.remsi v504 v506
  let c0_i32_528 : BitVec 32 := 0#32
  let v509 : BitVec 1 := Scalar.cmpi .slt v507 c0_i32_528
  let c0_i32_529 : BitVec 32 := 0#32
  let v510 : BitVec 1 := Scalar.cmpi .slt v506 c0_i32_529
  let v511 : BitVec 1 := Scalar.xori v509 v510
  let c0_i32_527 : BitVec 32 := 0#32
  let v508 : BitVec 1 := Scalar.cmpi .ne v507 c0_i32_527
  let v512 : BitVec 1 := Scalar.andi v511 v508
  let v513 : BitVec 32 := Scalar.addi v507 v506
  let v514 : BitVec 32 := Scalar.select v512 v513 v507
  let c0_i32_537 : BitVec 32 := 0#32
  let c0_i32_538 : BitVec 32 := 0#32
  ![v514.toNat, 0, 0]
def k0_off16 (k0_t1 : Fin k0_t1_loop.trips) : Fin 3 → Nat :=
  let c0_i32_407 : BitVec 32 := 0#32
  let c1_i32_408 : BitVec 32 := 1#32
  let arg16 : BitVec 32 := Scf.iv c0_i32_407 c1_i32_408 k0_t1
  let c2_i32_523 : BitVec 32 := 2#32
  let v504 : BitVec 32 := Scalar.subi arg16 c2_i32_523
  let c0_i32_539 : BitVec 32 := 0#32
  let c0_i32_540 : BitVec 32 := 0#32
  ![v504.toNat, 0, 0]
def k0_off17 (d0 : Dev nD) : Fin 2 → Nat :=
  let c1_i32_175 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v178 : BitVec 32 := Scalar.subi c1_i32_175 v2
  let c1024_i32_176 : BitVec 32 := 1024#32
  let v179 : BitVec 32 := Scalar.muli v178 c1024_i32_176
  let v437 : Index := Scalar.indexCast v179
  let c0_483 : Index := 0#32
  ![v437.toNat, 0]
def k0_off18 (k0_t1 : Fin k0_t1_loop.trips) : Fin 3 → Nat :=
  let c0_i32_407 : BitVec 32 := 0#32
  let c1_i32_408 : BitVec 32 := 1#32
  let arg16 : BitVec 32 := Scf.iv c0_i32_407 c1_i32_408 k0_t1
  let c2_i32_493 : BitVec 32 := 2#32
  let c0_i32_494 : BitVec 32 := 0#32
  let v453 : BitVec 1 := Scalar.cmpi .eq c2_i32_493 c0_i32_494
  let c1_i32_495 : BitVec 32 := 1#32
  let v454 : BitVec 32 := Scalar.select v453 c1_i32_495 c2_i32_493
  let v455 : BitVec 32 := Scalar.remsi arg16 v454
  let c0_i32_497 : BitVec 32 := 0#32
  let v457 : BitVec 1 := Scalar.cmpi .slt v455 c0_i32_497
  let c0_i32_498 : BitVec 32 := 0#32
  let v458 : BitVec 1 := Scalar.cmpi .slt v454 c0_i32_498
  let v459 : BitVec 1 := Scalar.xori v457 v458
  let c0_i32_496 : BitVec 32 := 0#32
  let v456 : BitVec 1 := Scalar.cmpi .ne v455 c0_i32_496
  let v460 : BitVec 1 := Scalar.andi v459 v456
  let v461 : BitVec 32 := Scalar.addi v455 v454
  let v462 : BitVec 32 := Scalar.select v460 v461 v455
  let v463 : Index := Scalar.indexCast v462
  let c0_499 : Index := 0#32
  let c0_500 : Index := 0#32
  ![v463.toNat, 0, 0]
def k0_off19 (k0_t1 : Fin k0_t1_loop.trips) : Fin 1 → Nat :=
  let c0_i32_407 : BitVec 32 := 0#32
  let c1_i32_408 : BitVec 32 := 1#32
  let arg16 : BitVec 32 := Scf.iv c0_i32_407 c1_i32_408 k0_t1
  ![arg16.toNat]
def k0_off20 (k0_t1 : Fin k0_t1_loop.trips) : Fin 3 → Nat :=
  let c0_i32_407 : BitVec 32 := 0#32
  let c1_i32_408 : BitVec 32 := 1#32
  let arg16 : BitVec 32 := Scf.iv c0_i32_407 c1_i32_408 k0_t1
  let c0_i32_517 : BitVec 32 := 0#32
  let c0_i32_518 : BitVec 32 := 0#32
  ![arg16.toNat, 0, 0]
def k0_off21 (k0_t1 : Fin k0_t1_loop.trips) : Fin 3 → Nat :=
  let c0_i32_407 : BitVec 32 := 0#32
  let c1_i32_408 : BitVec 32 := 1#32
  let arg16 : BitVec 32 := Scf.iv c0_i32_407 c1_i32_408 k0_t1
  let c2_i32_501 : BitVec 32 := 2#32
  let c0_i32_502 : BitVec 32 := 0#32
  let v467 : BitVec 1 := Scalar.cmpi .eq c2_i32_501 c0_i32_502
  let c1_i32_503 : BitVec 32 := 1#32
  let v468 : BitVec 32 := Scalar.select v467 c1_i32_503 c2_i32_501
  let v469 : BitVec 32 := Scalar.remsi arg16 v468
  let c0_i32_505 : BitVec 32 := 0#32
  let v471 : BitVec 1 := Scalar.cmpi .slt v469 c0_i32_505
  let c0_i32_506 : BitVec 32 := 0#32
  let v472 : BitVec 1 := Scalar.cmpi .slt v468 c0_i32_506
  let v473 : BitVec 1 := Scalar.xori v471 v472
  let c0_i32_504 : BitVec 32 := 0#32
  let v470 : BitVec 1 := Scalar.cmpi .ne v469 c0_i32_504
  let v474 : BitVec 1 := Scalar.andi v473 v470
  let v475 : BitVec 32 := Scalar.addi v469 v468
  let v476 : BitVec 32 := Scalar.select v474 v475 v469
  let c0_i32_519 : BitVec 32 := 0#32
  let c0_i32_520 : BitVec 32 := 0#32
  ![v476.toNat, 0, 0]
def k0_dev2 (d0 : Dev nD) : Nat :=
  let c0_i32_514 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_513 : BitVec 32 := 16#32
  let v487 : BitVec 32 := Scalar.muli v9 c16_i32_513
  let v488 : BitVec 32 := Scalar.addi c0_i32_514 v487
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_515 : BitVec 32 := 4#32
  let v489 : BitVec 32 := Scalar.muli v5 c4_i32_515
  let v490 : BitVec 32 := Scalar.addi v488 v489
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_516 : BitVec 32 := 1#32
  let v491 : BitVec 32 := Scalar.muli v8 c1_i32_516
  let v492 : BitVec 32 := Scalar.addi v490 v491
  v492.toNat
def k0_cond4 (k0_t1 : Fin k0_t1_loop.trips) : BitVec 1 :=
  let c0_i32_407 : BitVec 32 := 0#32
  let c1_i32_408 : BitVec 32 := 1#32
  let arg16 : BitVec 32 := Scf.iv c0_i32_407 c1_i32_408 k0_t1
  let c4_i32_521 : BitVec 32 := 4#32
  let v501 : BitVec 1 := Scalar.cmpi .sge arg16 c4_i32_521
  let v502 : BitVec 32 := Scalar.extui v501
  let c0_i32_522 : BitVec 32 := 0#32
  let v503 : BitVec 1 := Scalar.cmpi .ne v502 c0_i32_522
  v503

def k0_off22 (k0_t1 : Fin k0_t1_loop.trips) : Fin 1 → Nat :=
  let c0_i32_407 : BitVec 32 := 0#32
  let c1_i32_408 : BitVec 32 := 1#32
  let arg16 : BitVec 32 := Scf.iv c0_i32_407 c1_i32_408 k0_t1
  let c4_i32_523 : BitVec 32 := 4#32
  let v504 : BitVec 32 := Scalar.subi arg16 c4_i32_523
  let c2_i32_530 : BitVec 32 := 2#32
  let c0_i32_531 : BitVec 32 := 0#32
  let v515 : BitVec 1 := Scalar.cmpi .eq c2_i32_530 c0_i32_531
  let c1_i32_532 : BitVec 32 := 1#32
  let v516 : BitVec 32 := Scalar.select v515 c1_i32_532 c2_i32_530
  let v517 : BitVec 32 := Scalar.remsi v504 v516
  let c0_i32_534 : BitVec 32 := 0#32
  let v519 : BitVec 1 := Scalar.cmpi .slt v517 c0_i32_534
  let c0_i32_535 : BitVec 32 := 0#32
  let v520 : BitVec 1 := Scalar.cmpi .slt v516 c0_i32_535
  let v521 : BitVec 1 := Scalar.xori v519 v520
  let c0_i32_533 : BitVec 32 := 0#32
  let v518 : BitVec 1 := Scalar.cmpi .ne v517 c0_i32_533
  let v522 : BitVec 1 := Scalar.andi v521 v518
  let v523 : BitVec 32 := Scalar.addi v517 v516
  let v524 : BitVec 32 := Scalar.select v522 v523 v517
  ![v524.toNat]
def k0_off23 (k0_t1 : Fin k0_t1_loop.trips) : Fin 3 → Nat :=
  let c0_i32_407 : BitVec 32 := 0#32
  let c1_i32_408 : BitVec 32 := 1#32
  let arg16 : BitVec 32 := Scf.iv c0_i32_407 c1_i32_408 k0_t1
  let c4_i32_523 : BitVec 32 := 4#32
  let v504 : BitVec 32 := Scalar.subi arg16 c4_i32_523
  let c2_i32_524 : BitVec 32 := 2#32
  let c0_i32_525 : BitVec 32 := 0#32
  let v505 : BitVec 1 := Scalar.cmpi .eq c2_i32_524 c0_i32_525
  let c1_i32_526 : BitVec 32 := 1#32
  let v506 : BitVec 32 := Scalar.select v505 c1_i32_526 c2_i32_524
  let v507 : BitVec 32 := Scalar.remsi v504 v506
  let c0_i32_528 : BitVec 32 := 0#32
  let v509 : BitVec 1 := Scalar.cmpi .slt v507 c0_i32_528
  let c0_i32_529 : BitVec 32 := 0#32
  let v510 : BitVec 1 := Scalar.cmpi .slt v506 c0_i32_529
  let v511 : BitVec 1 := Scalar.xori v509 v510
  let c0_i32_527 : BitVec 32 := 0#32
  let v508 : BitVec 1 := Scalar.cmpi .ne v507 c0_i32_527
  let v512 : BitVec 1 := Scalar.andi v511 v508
  let v513 : BitVec 32 := Scalar.addi v507 v506
  let v514 : BitVec 32 := Scalar.select v512 v513 v507
  let c0_i32_536 : BitVec 32 := 0#32
  let c0_i32_537 : BitVec 32 := 0#32
  ![v514.toNat, 0, 0]
def k0_off24 (k0_t1 : Fin k0_t1_loop.trips) : Fin 3 → Nat :=
  let c0_i32_407 : BitVec 32 := 0#32
  let c1_i32_408 : BitVec 32 := 1#32
  let arg16 : BitVec 32 := Scf.iv c0_i32_407 c1_i32_408 k0_t1
  let c4_i32_523 : BitVec 32 := 4#32
  let v504 : BitVec 32 := Scalar.subi arg16 c4_i32_523
  let c0_i32_538 : BitVec 32 := 0#32
  let c0_i32_539 : BitVec 32 := 0#32
  ![v504.toNat, 0, 0]
def k0_cond5 (k0_t1 : Fin k0_t1_loop.trips) : BitVec 1 :=
  let c0_i32_407 : BitVec 32 := 0#32
  let c1_i32_408 : BitVec 32 := 1#32
  let arg16 : BitVec 32 := Scf.iv c0_i32_407 c1_i32_408 k0_t1
  let c4_i32_523 : BitVec 32 := 4#32
  let v504 : BitVec 32 := Scalar.subi arg16 c4_i32_523
  let c2_i32_540 : BitVec 32 := 2#32
  let v531 : BitVec 1 := Scalar.cmpi .sge v504 c2_i32_540
  let v532 : BitVec 32 := Scalar.extui v531
  let c0_i32_541 : BitVec 32 := 0#32
  let v533 : BitVec 1 := Scalar.cmpi .ne v532 c0_i32_541
  v533

def k0_off25 (k0_t1 : Fin k0_t1_loop.trips) : Fin 1 → Nat :=
  let c0_i32_407 : BitVec 32 := 0#32
  let c1_i32_408 : BitVec 32 := 1#32
  let arg16 : BitVec 32 := Scf.iv c0_i32_407 c1_i32_408 k0_t1
  let c4_i32_523 : BitVec 32 := 4#32
  let v504 : BitVec 32 := Scalar.subi arg16 c4_i32_523
  let c2_i32_583 : BitVec 32 := 2#32
  let v602 : BitVec 32 := Scalar.subi v504 c2_i32_583
  let c2_i32_591 : BitVec 32 := 2#32
  let c0_i32_592 : BitVec 32 := 0#32
  let v614 : BitVec 1 := Scalar.cmpi .eq c2_i32_591 c0_i32_592
  let c1_i32_593 : BitVec 32 := 1#32
  let v615 : BitVec 32 := Scalar.select v614 c1_i32_593 c2_i32_591
  let v616 : BitVec 32 := Scalar.remsi v602 v615
  let c0_i32_595 : BitVec 32 := 0#32
  let v618 : BitVec 1 := Scalar.cmpi .slt v616 c0_i32_595
  let c0_i32_596 : BitVec 32 := 0#32
  let v619 : BitVec 1 := Scalar.cmpi .slt v615 c0_i32_596
  let v620 : BitVec 1 := Scalar.xori v618 v619
  let c0_i32_594 : BitVec 32 := 0#32
  let v617 : BitVec 1 := Scalar.cmpi .ne v616 c0_i32_594
  let v621 : BitVec 1 := Scalar.andi v620 v617
  let v622 : BitVec 32 := Scalar.addi v616 v615
  let v623 : BitVec 32 := Scalar.select v621 v622 v616
  ![v623.toNat]
def k0_off26 (k0_t1 : Fin k0_t1_loop.trips) : Fin 3 → Nat :=
  let c0_i32_597 : BitVec 32 := 0#32
  let c0_i32_598 : BitVec 32 := 0#32
  let c0_i32_407 : BitVec 32 := 0#32
  let c1_i32_408 : BitVec 32 := 1#32
  let arg16 : BitVec 32 := Scf.iv c0_i32_407 c1_i32_408 k0_t1
  let c4_i32_523 : BitVec 32 := 4#32
  let v504 : BitVec 32 := Scalar.subi arg16 c4_i32_523
  let c2_i32_583 : BitVec 32 := 2#32
  let v602 : BitVec 32 := Scalar.subi v504 c2_i32_583
  let c256_i32_590 : BitVec 32 := 256#32
  let v613 : BitVec 32 := Scalar.muli v602 c256_i32_590
  ![0, 0, v613.toNat]
def k0_off27 (k0_t1 : Fin k0_t1_loop.trips) : Fin 3 → Nat :=
  let c0_i32_407 : BitVec 32 := 0#32
  let c1_i32_408 : BitVec 32 := 1#32
  let arg16 : BitVec 32 := Scf.iv c0_i32_407 c1_i32_408 k0_t1
  let c4_i32_523 : BitVec 32 := 4#32
  let v504 : BitVec 32 := Scalar.subi arg16 c4_i32_523
  let c2_i32_583 : BitVec 32 := 2#32
  let v602 : BitVec 32 := Scalar.subi v504 c2_i32_583
  let c2_i32_584 : BitVec 32 := 2#32
  let c0_i32_585 : BitVec 32 := 0#32
  let v603 : BitVec 1 := Scalar.cmpi .eq c2_i32_584 c0_i32_585
  let c1_i32_586 : BitVec 32 := 1#32
  let v604 : BitVec 32 := Scalar.select v603 c1_i32_586 c2_i32_584
  let v605 : BitVec 32 := Scalar.remsi v602 v604
  let c0_i32_588 : BitVec 32 := 0#32
  let v607 : BitVec 1 := Scalar.cmpi .slt v605 c0_i32_588
  let c0_i32_589 : BitVec 32 := 0#32
  let v608 : BitVec 1 := Scalar.cmpi .slt v604 c0_i32_589
  let v609 : BitVec 1 := Scalar.xori v607 v608
  let c0_i32_587 : BitVec 32 := 0#32
  let v606 : BitVec 1 := Scalar.cmpi .ne v605 c0_i32_587
  let v610 : BitVec 1 := Scalar.andi v609 v606
  let v611 : BitVec 32 := Scalar.addi v605 v604
  let v612 : BitVec 32 := Scalar.select v610 v611 v605
  let c0_i32_599 : BitVec 32 := 0#32
  let c0_i32_600 : BitVec 32 := 0#32
  ![v612.toNat, 0, 0]
def k0_off28 (k0_t1 : Fin k0_t1_loop.trips) : Fin 3 → Nat :=
  let c0_i32_407 : BitVec 32 := 0#32
  let c1_i32_408 : BitVec 32 := 1#32
  let arg16 : BitVec 32 := Scf.iv c0_i32_407 c1_i32_408 k0_t1
  let c4_i32_523 : BitVec 32 := 4#32
  let v504 : BitVec 32 := Scalar.subi arg16 c4_i32_523
  let c5_i32_542 : BitVec 32 := 5#32
  let c0_i32_543 : BitVec 32 := 0#32
  let v534 : BitVec 1 := Scalar.cmpi .eq c5_i32_542 c0_i32_543
  let c1_i32_544 : BitVec 32 := 1#32
  let v535 : BitVec 32 := Scalar.select v534 c1_i32_544 c5_i32_542
  let v536 : BitVec 32 := Scalar.remsi v504 v535
  let c0_i32_546 : BitVec 32 := 0#32
  let v538 : BitVec 1 := Scalar.cmpi .slt v536 c0_i32_546
  let c0_i32_547 : BitVec 32 := 0#32
  let v539 : BitVec 1 := Scalar.cmpi .slt v535 c0_i32_547
  let v540 : BitVec 1 := Scalar.xori v538 v539
  let c0_i32_545 : BitVec 32 := 0#32
  let v537 : BitVec 1 := Scalar.cmpi .ne v536 c0_i32_545
  let v541 : BitVec 1 := Scalar.andi v540 v537
  let v542 : BitVec 32 := Scalar.addi v536 v535
  let v543 : BitVec 32 := Scalar.select v541 v542 v536
  let v544 : Index := Scalar.indexCast v543
  let c0_548 : Index := 0#32
  let c0_549 : Index := 0#32
  ![v544.toNat, 0, 0]
def k0_off29 (k0_t1 : Fin k0_t1_loop.trips) : Fin 3 → Nat :=
  let c0_i32_407 : BitVec 32 := 0#32
  let c1_i32_408 : BitVec 32 := 1#32
  let arg16 : BitVec 32 := Scf.iv c0_i32_407 c1_i32_408 k0_t1
  let c4_i32_523 : BitVec 32 := 4#32
  let v504 : BitVec 32 := Scalar.subi arg16 c4_i32_523
  let c2_i32_550 : BitVec 32 := 2#32
  let c0_i32_551 : BitVec 32 := 0#32
  let v547 : BitVec 1 := Scalar.cmpi .eq c2_i32_550 c0_i32_551
  let c1_i32_552 : BitVec 32 := 1#32
  let v548 : BitVec 32 := Scalar.select v547 c1_i32_552 c2_i32_550
  let v549 : BitVec 32 := Scalar.remsi v504 v548
  let c0_i32_554 : BitVec 32 := 0#32
  let v551 : BitVec 1 := Scalar.cmpi .slt v549 c0_i32_554
  let c0_i32_555 : BitVec 32 := 0#32
  let v552 : BitVec 1 := Scalar.cmpi .slt v548 c0_i32_555
  let v553 : BitVec 1 := Scalar.xori v551 v552
  let c0_i32_553 : BitVec 32 := 0#32
  let v550 : BitVec 1 := Scalar.cmpi .ne v549 c0_i32_553
  let v554 : BitVec 1 := Scalar.andi v553 v550
  let v555 : BitVec 32 := Scalar.addi v549 v548
  let v556 : BitVec 32 := Scalar.select v554 v555 v549
  let v557 : Index := Scalar.indexCast v556
  let c0_556 : Index := 0#32
  let c0_557 : Index := 0#32
  ![v557.toNat, 0, 0]
def k0_off30 (k0_t1 : Fin k0_t1_loop.trips) : Fin 3 → Nat :=
  let c0_i32_579 : BitVec 32 := 0#32
  let c0_i32_580 : BitVec 32 := 0#32
  let c0_i32_407 : BitVec 32 := 0#32
  let c1_i32_408 : BitVec 32 := 1#32
  let arg16 : BitVec 32 := Scf.iv c0_i32_407 c1_i32_408 k0_t1
  let c4_i32_523 : BitVec 32 := 4#32
  let v504 : BitVec 32 := Scalar.subi arg16 c4_i32_523
  let c256_i32_572 : BitVec 32 := 256#32
  let v585 : BitVec 32 := Scalar.muli v504 c256_i32_572
  ![0, 0, v585.toNat]
@[reducible] def k0_t2_loop : Scf.Loop 32 :=
  let c28_i32_428 : BitVec 32 := 28#32
  let c4_i32_429 : BitVec 32 := 4#32
  let v358 : BitVec 32 := Scalar.addi c28_i32_428 c4_i32_429
  let c1_i32_430 : BitVec 32 := 1#32
  ⟨c28_i32_428, v358, c1_i32_430⟩
def k0_off31 (k0_t2 : Fin k0_t2_loop.trips) : Fin 1 → Nat :=
  let c28_i32_428 : BitVec 32 := 28#32
  let c1_i32_430 : BitVec 32 := 1#32
  let arg16 : BitVec 32 := Scf.iv c28_i32_428 c1_i32_430 k0_t2
  ![arg16.toNat]
def k0_off32 (k0_t2 : Fin k0_t2_loop.trips) : Fin 3 → Nat :=
  let c28_i32_428 : BitVec 32 := 28#32
  let c1_i32_430 : BitVec 32 := 1#32
  let arg16 : BitVec 32 := Scf.iv c28_i32_428 c1_i32_430 k0_t2
  let c0_i32_460 : BitVec 32 := 0#32
  let c0_i32_461 : BitVec 32 := 0#32
  ![arg16.toNat, 0, 0]
def k0_off33 (k0_t2 : Fin k0_t2_loop.trips) : Fin 3 → Nat :=
  let c28_i32_428 : BitVec 32 := 28#32
  let c1_i32_430 : BitVec 32 := 1#32
  let arg16 : BitVec 32 := Scf.iv c28_i32_428 c1_i32_430 k0_t2
  let c2_i32_444 : BitVec 32 := 2#32
  let c0_i32_445 : BitVec 32 := 0#32
  let v371 : BitVec 1 := Scalar.cmpi .eq c2_i32_444 c0_i32_445
  let c1_i32_446 : BitVec 32 := 1#32
  let v372 : BitVec 32 := Scalar.select v371 c1_i32_446 c2_i32_444
  let v373 : BitVec 32 := Scalar.remsi arg16 v372
  let c0_i32_448 : BitVec 32 := 0#32
  let v375 : BitVec 1 := Scalar.cmpi .slt v373 c0_i32_448
  let c0_i32_449 : BitVec 32 := 0#32
  let v376 : BitVec 1 := Scalar.cmpi .slt v372 c0_i32_449
  let v377 : BitVec 1 := Scalar.xori v375 v376
  let c0_i32_447 : BitVec 32 := 0#32
  let v374 : BitVec 1 := Scalar.cmpi .ne v373 c0_i32_447
  let v378 : BitVec 1 := Scalar.andi v377 v374
  let v379 : BitVec 32 := Scalar.addi v373 v372
  let v380 : BitVec 32 := Scalar.select v378 v379 v373
  let c0_i32_462 : BitVec 32 := 0#32
  let c0_i32_463 : BitVec 32 := 0#32
  ![v380.toNat, 0, 0]
def k0_off34 (k0_t2 : Fin k0_t2_loop.trips) : Fin 1 → Nat :=
  let c28_i32_428 : BitVec 32 := 28#32
  let c1_i32_430 : BitVec 32 := 1#32
  let arg16 : BitVec 32 := Scf.iv c28_i32_428 c1_i32_430 k0_t2
  let c2_i32_470 : BitVec 32 := 2#32
  let c0_i32_471 : BitVec 32 := 0#32
  let v413 : BitVec 1 := Scalar.cmpi .eq c2_i32_470 c0_i32_471
  let c1_i32_472 : BitVec 32 := 1#32
  let v414 : BitVec 32 := Scalar.select v413 c1_i32_472 c2_i32_470
  let v415 : BitVec 32 := Scalar.remsi arg16 v414
  let c0_i32_474 : BitVec 32 := 0#32
  let v417 : BitVec 1 := Scalar.cmpi .slt v415 c0_i32_474
  let c0_i32_475 : BitVec 32 := 0#32
  let v418 : BitVec 1 := Scalar.cmpi .slt v414 c0_i32_475
  let v419 : BitVec 1 := Scalar.xori v417 v418
  let c0_i32_473 : BitVec 32 := 0#32
  let v416 : BitVec 1 := Scalar.cmpi .ne v415 c0_i32_473
  let v420 : BitVec 1 := Scalar.andi v419 v416
  let v421 : BitVec 32 := Scalar.addi v415 v414
  let v422 : BitVec 32 := Scalar.select v420 v421 v415
  ![v422.toNat]
def k0_cond6 (k0_t2 : Fin k0_t2_loop.trips) : BitVec 1 :=
  let c28_i32_428 : BitVec 32 := 28#32
  let c1_i32_430 : BitVec 32 := 1#32
  let arg16 : BitVec 32 := Scf.iv c28_i32_428 c1_i32_430 k0_t2
  let c2_i32_496 : BitVec 32 := 2#32
  let v455 : BitVec 1 := Scalar.cmpi .sge arg16 c2_i32_496
  let v456 : BitVec 32 := Scalar.extui v455
  let c0_i32_497 : BitVec 32 := 0#32
  let v457 : BitVec 1 := Scalar.cmpi .ne v456 c0_i32_497
  v457

def k0_off35 (k0_t2 : Fin k0_t2_loop.trips) : Fin 1 → Nat :=
  let c28_i32_428 : BitVec 32 := 28#32
  let c1_i32_430 : BitVec 32 := 1#32
  let arg16 : BitVec 32 := Scf.iv c28_i32_428 c1_i32_430 k0_t2
  let c2_i32_538 : BitVec 32 := 2#32
  let v526 : BitVec 32 := Scalar.subi arg16 c2_i32_538
  let c2_i32_546 : BitVec 32 := 2#32
  let c0_i32_547 : BitVec 32 := 0#32
  let v538 : BitVec 1 := Scalar.cmpi .eq c2_i32_546 c0_i32_547
  let c1_i32_548 : BitVec 32 := 1#32
  let v539 : BitVec 32 := Scalar.select v538 c1_i32_548 c2_i32_546
  let v540 : BitVec 32 := Scalar.remsi v526 v539
  let c0_i32_550 : BitVec 32 := 0#32
  let v542 : BitVec 1 := Scalar.cmpi .slt v540 c0_i32_550
  let c0_i32_551 : BitVec 32 := 0#32
  let v543 : BitVec 1 := Scalar.cmpi .slt v539 c0_i32_551
  let v544 : BitVec 1 := Scalar.xori v542 v543
  let c0_i32_549 : BitVec 32 := 0#32
  let v541 : BitVec 1 := Scalar.cmpi .ne v540 c0_i32_549
  let v545 : BitVec 1 := Scalar.andi v544 v541
  let v546 : BitVec 32 := Scalar.addi v540 v539
  let v547 : BitVec 32 := Scalar.select v545 v546 v540
  ![v547.toNat]
def k0_off36 (k0_t2 : Fin k0_t2_loop.trips) : Fin 3 → Nat :=
  let c0_i32_552 : BitVec 32 := 0#32
  let c0_i32_553 : BitVec 32 := 0#32
  let c28_i32_428 : BitVec 32 := 28#32
  let c1_i32_430 : BitVec 32 := 1#32
  let arg16 : BitVec 32 := Scf.iv c28_i32_428 c1_i32_430 k0_t2
  let c2_i32_538 : BitVec 32 := 2#32
  let v526 : BitVec 32 := Scalar.subi arg16 c2_i32_538
  let c256_i32_545 : BitVec 32 := 256#32
  let v537 : BitVec 32 := Scalar.muli v526 c256_i32_545
  ![0, 0, v537.toNat]
def k0_off37 (k0_t2 : Fin k0_t2_loop.trips) : Fin 3 → Nat :=
  let c28_i32_428 : BitVec 32 := 28#32
  let c1_i32_430 : BitVec 32 := 1#32
  let arg16 : BitVec 32 := Scf.iv c28_i32_428 c1_i32_430 k0_t2
  let c2_i32_538 : BitVec 32 := 2#32
  let v526 : BitVec 32 := Scalar.subi arg16 c2_i32_538
  let c2_i32_539 : BitVec 32 := 2#32
  let c0_i32_540 : BitVec 32 := 0#32
  let v527 : BitVec 1 := Scalar.cmpi .eq c2_i32_539 c0_i32_540
  let c1_i32_541 : BitVec 32 := 1#32
  let v528 : BitVec 32 := Scalar.select v527 c1_i32_541 c2_i32_539
  let v529 : BitVec 32 := Scalar.remsi v526 v528
  let c0_i32_543 : BitVec 32 := 0#32
  let v531 : BitVec 1 := Scalar.cmpi .slt v529 c0_i32_543
  let c0_i32_544 : BitVec 32 := 0#32
  let v532 : BitVec 1 := Scalar.cmpi .slt v528 c0_i32_544
  let v533 : BitVec 1 := Scalar.xori v531 v532
  let c0_i32_542 : BitVec 32 := 0#32
  let v530 : BitVec 1 := Scalar.cmpi .ne v529 c0_i32_542
  let v534 : BitVec 1 := Scalar.andi v533 v530
  let v535 : BitVec 32 := Scalar.addi v529 v528
  let v536 : BitVec 32 := Scalar.select v534 v535 v529
  let c0_i32_554 : BitVec 32 := 0#32
  let c0_i32_555 : BitVec 32 := 0#32
  ![v536.toNat, 0, 0]
def k0_off38 (k0_t2 : Fin k0_t2_loop.trips) : Fin 3 → Nat :=
  let c28_i32_428 : BitVec 32 := 28#32
  let c1_i32_430 : BitVec 32 := 1#32
  let arg16 : BitVec 32 := Scf.iv c28_i32_428 c1_i32_430 k0_t2
  let c5_i32_498 : BitVec 32 := 5#32
  let c0_i32_499 : BitVec 32 := 0#32
  let v458 : BitVec 1 := Scalar.cmpi .eq c5_i32_498 c0_i32_499
  let c1_i32_500 : BitVec 32 := 1#32
  let v459 : BitVec 32 := Scalar.select v458 c1_i32_500 c5_i32_498
  let v460 : BitVec 32 := Scalar.remsi arg16 v459
  let c0_i32_502 : BitVec 32 := 0#32
  let v462 : BitVec 1 := Scalar.cmpi .slt v460 c0_i32_502
  let c0_i32_503 : BitVec 32 := 0#32
  let v463 : BitVec 1 := Scalar.cmpi .slt v459 c0_i32_503
  let v464 : BitVec 1 := Scalar.xori v462 v463
  let c0_i32_501 : BitVec 32 := 0#32
  let v461 : BitVec 1 := Scalar.cmpi .ne v460 c0_i32_501
  let v465 : BitVec 1 := Scalar.andi v464 v461
  let v466 : BitVec 32 := Scalar.addi v460 v459
  let v467 : BitVec 32 := Scalar.select v465 v466 v460
  let v468 : Index := Scalar.indexCast v467
  let c0 : Index := 0#32
  let c0_504 : Index := 0#32
  ![v468.toNat, 0, 0]
def k0_off39 (k0_t2 : Fin k0_t2_loop.trips) : Fin 3 → Nat :=
  let c28_i32_428 : BitVec 32 := 28#32
  let c1_i32_430 : BitVec 32 := 1#32
  let arg16 : BitVec 32 := Scf.iv c28_i32_428 c1_i32_430 k0_t2
  let c2_i32_505 : BitVec 32 := 2#32
  let c0_i32_506 : BitVec 32 := 0#32
  let v471 : BitVec 1 := Scalar.cmpi .eq c2_i32_505 c0_i32_506
  let c1_i32_507 : BitVec 32 := 1#32
  let v472 : BitVec 32 := Scalar.select v471 c1_i32_507 c2_i32_505
  let v473 : BitVec 32 := Scalar.remsi arg16 v472
  let c0_i32_509 : BitVec 32 := 0#32
  let v475 : BitVec 1 := Scalar.cmpi .slt v473 c0_i32_509
  let c0_i32_510 : BitVec 32 := 0#32
  let v476 : BitVec 1 := Scalar.cmpi .slt v472 c0_i32_510
  let v477 : BitVec 1 := Scalar.xori v475 v476
  let c0_i32_508 : BitVec 32 := 0#32
  let v474 : BitVec 1 := Scalar.cmpi .ne v473 c0_i32_508
  let v478 : BitVec 1 := Scalar.andi v477 v474
  let v479 : BitVec 32 := Scalar.addi v473 v472
  let v480 : BitVec 32 := Scalar.select v478 v479 v473
  let v481 : Index := Scalar.indexCast v480
  let c0_511 : Index := 0#32
  let c0_512 : Index := 0#32
  ![v481.toNat, 0, 0]
def k0_off40 (k0_t2 : Fin k0_t2_loop.trips) : Fin 3 → Nat :=
  let c0_i32_534 : BitVec 32 := 0#32
  let c0_i32_535 : BitVec 32 := 0#32
  let c28_i32_428 : BitVec 32 := 28#32
  let c1_i32_430 : BitVec 32 := 1#32
  let arg16 : BitVec 32 := Scf.iv c28_i32_428 c1_i32_430 k0_t2
  let c256_i32_527 : BitVec 32 := 256#32
  let v509 : BitVec 32 := Scalar.muli arg16 c256_i32_527
  ![0, 0, v509.toNat]
-- ==== ReferenceIdeal.lean ====
abbrev S1x2048x64x128 : Shape := ⟨4, ![1, 2048, 64, 128]⟩
abbrev S8192x8192 : Shape := ⟨2, ![8192, 8192]⟩
abbrev S1x2048x8192 : Shape := ⟨3, ![1, 2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S1x2048x64x128, .f32⟩
  | .hbm, ⟨1, _⟩ => ⟨S8192x8192, .f32⟩
  | .hbm, ⟨2, _⟩ => ⟨S1x2048x8192, .f32⟩
  | .hbm, ⟨3, _⟩ => ⟨S1x2048x8192, .f32⟩
  | _, _ => ⟨S1x2048x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Base.lean ====
/-
The setting of the proof: the algebra, the partner of a device, the pieces of the buffers the kernel's transfers
name, and the steps a device takes with them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.Tactic

@[expose] public section

set_option maxRecDepth 16384

noncomputable section

namespace Cert.Pair

open Cert.KernelIdeal Cert.KernelIdeal.Gen
open Idealize.ShloMosaic
open Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The algebra -/

/-- The pipeline library's part beside the counters that the transfers are tracked by. -/
abbrev UU : Type := UR sig nD τ × Counters

local notation "𝕄" => MT nD τ sig Unit (Elt F) ℕ UU ℕ

abbrev EP : Emb (UR sig nD τ) (MT nD τ sig Unit (Elt F) ℕ UU ℕ) := embL
abbrev EC : UEmb Counters (MT nD τ sig Unit (Elt F) ℕ UU ℕ) := countersEmb
abbrev 𝒱₀ : Variants := Variants.none

/-- What a device's run of a program must establish, to end in `Q`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The partner -/

set_option backward.proofsInPublic true in
/-- The device a device exchanges its partial products with: the other one along the mesh's first axis. -/
def peer (c : Dev nD) : Dev nD := ⟨(c.val + 16) % 32, Nat.mod_lt _ (by decide)⟩

theorem peer_peer (c : Dev nD) : peer (peer c) = c := by revert c; decide
theorem dev1_eq (c : Dev nD) : (⟨k0_dev1 c, k0_dev1_lt c⟩ : Dev nD) = peer c := by revert c; decide +kernel
theorem dev2_eq (c : Dev nD) : (⟨k0_dev2 c, k0_dev2_lt c⟩ : Dev nD) = peer c := by revert c; decide +kernel

/-- Going to the partner, as a permutation of the devices. -/
def swap : Dev nD ≃ Dev nD := ⟨peer, peer, peer_peer, peer_peer⟩

/-! ## Owning a piece of a buffer -/

section Own
variable (c : Dev nD) {sp : Space} {s : Shape} {e : EltTy}

/-- Device `c` owns the piece `M` of one of its buffers, reading `v`. -/
def own (M : Memref sig .tc sp s e) (v : s.Idx → Elt F e) : sProp 𝕄 := owns (c : Thread nD τ) M fullShare v

/-- Device `c` owns the piece `M`, whatever it reads. -/
def free (M : Memref sig .tc sp s e) : sProp 𝕄 := iprop(∃ v : s.Idx → Elt F e, own c M v)

omit [FloatOps F] in
instance own_storable (M : Memref sig .tc sp s e) (v : s.Idx → Elt F e) : BI.Storable (upEmb : UEmb _ 𝕄) (own (F := F) c M v) := by
  unfold own; infer_instance
omit [FloatOps F] in
instance free_storable (M : Memref sig .tc sp s e) : BI.Storable (upEmb : UEmb _ 𝕄) (free (F := F) c M) := by
  unfold free; infer_instance

omit [FloatOps F] in
theorem own_free (M : Memref sig .tc sp s e) (v : s.Idx → Elt F e) : (own c M v : sProp 𝕄) ⊢ free c M := by
  unfold free; iintro H; iexists v; iexact H

omit [FloatOps F] in
theorem own_open (M : Memref sig .tc sp s e) (v : s.Idx → Elt F e) :
    (own c M v : sProp 𝕄) ⊢ iprop(∃ f, ⌜M.view.read (Elt F) f = v⌝ ∗ (M.view.loc (c : Thread nD τ) ↦[M.view.set]{fullShare} f)) := .rfl

omit [FloatOps F] in
theorem own_mk (M : Memref sig .tc sp s e) (v : s.Idx → Elt F e) (f : M.view.ty.Contents (Elt F)) (h : M.view.read (Elt F) f = v) :
    (M.view.loc (c : Thread nD τ) ↦[M.view.set]{fullShare} f : sProp 𝕄) ⊢ own c M v := by
  subst h; exact owns_intro (c : Thread nD τ) M fullShare f

end Own

/-! ## The steps of a device -/

section Steps
variable (c : Dev nD) {α : Type} {sp sp' : Space} {s : Shape} {e : EltTy}
variable {Q : α → sProp (MT nD τ sig Unit (Elt F) ℕ UU ℕ)}

/-- What a transfer in flight on the DMA semaphore `q` hands over when it is waited for. -/
abbrev Fly (q : DmaSem sig) (n : ℕ) (D : sProp 𝕄) : sProp 𝕄 := Flight EC (c : Thread nD τ) (.dma q) () n D

/-- The counter of `q` at zero. -/
abbrev sem0 (q : DmaSem sig) : sProp 𝕄 := semVal ((c : Thread nD τ), .dma q) 0

/-- Starting a transfer within a device: the two pieces and the semaphore at zero go into the flight, which hands both
    pieces back, the destination reading what the source read. -/
theorem wp_start {src : Memref sig .tc sp s e} {dst : Memref sig .tc sp' s e} {q : DmaSem sig}
    {src' : Memref sig .tc sp s e} {dst' : Memref sig .tc sp' s e} {q' : DmaSem sig}
    {h₁ : src'.view.WordExact} {h₂ : dst'.view.WordExact} {h₃ : (DmaTarget.here dst' : DmaTarget nD τ sig .tc sp' s e).Typed sp (.dma q')}
    {k : PUnit → Prog (TpuEff nD τ sig (Elt F) Λ₀ .tc) α} {v : s.Idx → Elt F e}
    (hs : src' = src) (hd : dst' = dst) (hq : q' = q) (hpos : 0 < s.numel) :
    iprop(own c src v ∗ free c dst ∗ sem0 c q)
      ⊢ iprop((Fly c q dst.view.dmaCredit iprop(own c dst v ∗ own c src v) -∗ Wp c (k ⟨⟩) Q)
          -∗ Wp c (.op (.enqueueDma src' (.here dst') (.dma q') h₁ h₂ h₃) k) Q) := by
  subst hs hd hq
  unfold free
  iintro ⟨Hs, ⟨%w, Hd⟩, Hq⟩ Hk
  ihave Hs' := (own_open c src' v) $$ Hs
  ihave Hd' := (own_open c dst' w) $$ Hd
  icases Hs' with ⟨%f, %hf, Hs⟩
  icases Hd' with ⟨%g, %hg, Hd⟩
  iapply (wp_dmaLocal EC 𝒱₀ (c : Thread nD τ) none () dst'.view.dmaCredit (by rfl) (View.dmaCredit_pos _ hpos) (Finset.Subset.refl _)) $$ [Hs Hd Hq]
  · isplitl [Hs]; · iexact Hs
    isplitl [Hd]; · iexact Hd
    iexact Hq
  iintro Hf
  iapply Hk
  have hr : dst'.view.read (Elt F) (dst'.view.write (Elt F) g (src'.view.read (Elt F) f) Finset.univ) = v := by
    rw [View.read_write_univ, hf]
  iapply (Flight_mono EC (c : Thread nD τ) (BIClass.sep_mono (own_mk c dst' v _ hr) (own_mk c src' v f hf))) $$ Hf

/-- Waiting for a transfer of one's own, or for one that arrives, while owing what sits above it. -/
theorem wp_finish {sp₁ sp₂ : Space} {s₁ : Shape} {e₁ : EltTy} {q q' : DmaSem sig} {src' : Memref sig .tc sp₁ s₁ e₁} {dst' : Memref sig .tc sp₂ s e} {n : ℕ}
    {h₁ : src'.view.WordExact} {h₂ : dst'.view.WordExact}
    {k : PUnit → Prog (TpuEff nD τ sig (Elt F) Λ₀ .tc) α} {D : sProp 𝕄} {O : CellTallies nD τ sig Unit} {W : Waits sig Unit}
    (hq : q' = q) (hn : dst'.view.dmaCredit = n) :
    iprop(Fly c q n D ∗ owes (c : Thread nD τ) O W ∗ MayWait (c : Thread nD τ) (.dma q) () O)
      ⊢ iprop((iprop(D ∗ sem0 c q ∗ owes (c : Thread nD τ) O (insert (SemLoc.dma q, ()) W)) -∗ Wp c (k ⟨⟩) Q)
          -∗ Wp c (.op (.waitDma2 q' src' dst' h₁ h₂) k) Q) := by
  subst hq
  exact wp_waitLocalO EC 𝒱₀ (c : Thread nD τ) none () hn

/-- The issuer's half of a cell of device `d` that will be credited `n` units and will then hand over `D`. -/
def Tick (d : Dev nD) (sm : SemLoc sig) (n : ℕ) (D : sProp 𝕄) : sProp 𝕄 :=
  iprop(∃ γ δ κ, inv κ (flightBody EC ((d : Thread nD τ), sm) n D γ δ) ∗ count EC γ 0)

/-- The waiter's half, without the credits. -/
def Tock (d : Dev nD) (sm : SemLoc sig) (n : ℕ) (D : sProp 𝕄) : sProp 𝕄 :=
  iprop(∃ γ δ κ, inv κ (flightBody EC ((d : Thread nD τ), sm) n D γ δ) ∗ tok EC δ)

omit [FloatOps F] in
/-- A cell at zero becomes the two halves. -/
theorem cell_alloc (d : Dev nD) (sm : SemLoc sig) (n : ℕ) (hn : 0 < n) (D : sProp 𝕄) [BI.Storable (upEmb : UEmb _ 𝕄) D] :
    (semVal ((d : Thread nD τ), sm) 0 : sProp 𝕄) ⊢ |={Set.univ}=> iprop(Tick d sm n D ∗ Tock d sm n D) := by
  iintro Hv
  imod (flight_alloc EC hn D (g := ((d : Thread nD τ), sm))) $$ Hv with ⟨%γ, %δ, %κ, #Hinv, Hγ, Hδ⟩
  imodintro
  unfold Tick Tock
  isplitl [Hγ]
  · iexists γ, δ, κ
    isplitr; · iexact Hinv
    iexact Hγ
  · iexists γ, δ, κ
    isplitr; · iexact Hinv
    iexact Hδ

omit [FloatOps F] in
/-- The waiter's half with the credits dealt for the cell is a transfer in flight. -/
theorem tock_fly (d : Dev nD) (sm : SemLoc sig) (n : ℕ) (D : sProp 𝕄) :
    iprop(Tock d sm n D ∗ cred (tallyAt ((d : Thread nD τ), sm) () n)) ⊢ (Flight EC (d : Thread nD τ) sm () n D : sProp 𝕄) := by
  unfold Tock
  iintro ⟨⟨%γ, %δ, %κ, Hinv, Hδ⟩, Hc⟩
  iapply (flight_intro EC (d : Thread nD τ) (κ := κ))
  isplitl [Hinv]; · iexact Hinv
  isplitl [Hδ] <;> iassumption

/-- Sending a piece to another device: the source goes into a flight on the sender's own semaphore; the receiving
    piece, owned by the sender until then, goes to the receiver through the cell it waits on; what was owed on that cell
    is paid. -/
theorem wp_send {d d' : Dev nD} {src src' : Memref sig .tc sp s e} {dst dst' : Memref sig .tc sp' s e} {qs qs' q q' : DmaSem sig} {hsc : dst'.view.ref.isScScratch = false}
    {h₁ : src'.view.WordExact} {h₂ : dst'.view.WordExact}
    {h₃ : (DmaTarget.remote (d' : Thread nD τ) dst' (.dma qs') hsc : DmaTarget nD τ sig .tc sp' s e).Typed sp (.dma q')}
    {k : PUnit → Prog (TpuEff nD τ sig (Elt F) Λ₀ .tc) α} {v : s.Idx → Elt F e} {O₀ : CellTallies nD τ sig Unit} (O : CellTallies nD τ sig Unit) {W : Waits sig Unit}
    (hd : d' = d) (hsrc : src' = src) (hdst : dst' = dst) (hqs : qs' = qs) (hq : q' = q) (hpos : 0 < s.numel)
    (hO : O₀ = O + tallyAt ((d : Thread nD τ), .dma q) () dst.view.dmaCredit) :
    iprop(own c src v ∗ free d dst ∗ Tick d (.dma q) dst.view.dmaCredit (own d dst v) ∗ sem0 c qs ∗ owes (c : Thread nD τ) O₀ W)
      ⊢ iprop((iprop(Fly c qs dst.view.dmaCredit (own c src v) ∗ owes (c : Thread nD τ) O W) -∗ Wp c (k ⟨⟩) Q)
          -∗ Wp c (.op (.enqueueDma src' (.remote (d' : Thread nD τ) dst' (.dma qs') hsc) (.dma q') h₁ h₂ h₃) k) Q) := by
  subst hd hsrc hdst hqs hq
  unfold free Tick
  iintro ⟨Hs, ⟨%w, Hd⟩, ⟨%γ, %δ, %κ, #Hinv, Hγ⟩, Hq, HO⟩ Hk
  ihave Hs' := (own_open c src' v) $$ Hs
  ihave Hd' := (own_open d' dst' w) $$ Hd
  icases Hs' with ⟨%f, %hf, Hs⟩
  icases Hd' with ⟨%g, %hg, Hd⟩
  have hr : dst'.view.read (Elt F) (dst'.view.write (Elt F) g (src'.view.read (Elt F) f) Finset.univ) = v := by
    rw [View.read_write_univ, hf]
  imod (flight_alloc EC (View.dmaCredit_pos dst'.view hpos) (own c src' v) (g := ((c : Thread nD τ), SemLoc.dma qs'))) $$ Hq with ⟨%γ', %δ', %κ', #Hinv', Hγ', Hδ'⟩
  iapply (wp_enqueueDma_remote_pointsTo 𝒱₀ (c : Thread nD τ) none Set.univ () () O dst'.view.dmaCredit (by rfl) hO) $$ [Hs Hd HO] [Hγ'] [Hγ]
  · isplitl [Hs]; · iexact Hs
    isplitl [Hd]; · iexact Hd
    iexact HO
  · iapply (creditUpdate_anti (own_mk c src' v f hf))
    iapply (flight_creditUpdate EC (δ := δ'))
    isplitr; · iexact Hinv'
    iexact Hγ'
  · iapply (creditUpdate_anti (own_mk d' dst' v _ hr))
    iapply (flight_creditUpdate EC (δ := δ))
    isplitr; · iexact Hinv
    iexact Hγ
  iintro ⟨Hc, HO⟩
  iapply Hk
  isplitl [Hc Hδ']
  · iapply (flight_intro EC (c : Thread nD τ) (κ := κ'))
    isplitr; · iexact Hinv'
    isplitl [Hδ'] <;> iassumption
  · iexact HO

/-- Signalling another device's semaphore by one, handing over what its cell delivers. -/
theorem wp_signal {d : Dev nD} {t : Thread nD τ} {b : Sem sig} {n : ℕ} {D : sProp 𝕄}
    {k : PUnit → Prog (TpuEff nD τ sig (Elt F) Λ₀ .tc) α} {O₀ : CellTallies nD τ sig Unit} (O : CellTallies nD τ sig Unit) {W : Waits sig Unit}
    (ht : t = (d : Thread nD τ)) (hn : n = 1) (hO : O₀ = O + tallyAt ((d : Thread nD τ), .reg b) () 1) :
    iprop(Tick d (.reg b) 1 D ∗ D ∗ owes (c : Thread nD τ) O₀ W)
      ⊢ iprop((owes (c : Thread nD τ) O W -∗ Wp c (k ⟨⟩) Q) -∗ Wp c (.op (.semSignal t b n) k) Q) := by
  subst hn ht
  unfold Tick
  iintro ⟨⟨%γ, %δ, %κ, Hinv, Hγ⟩, HD, HO⟩ Hk
  iapply (wp_semSignal 𝒱₀ (c : Thread nD τ) none Set.univ () O hO) $$ HO [Hinv Hγ HD] Hk
  ihave Hu := (flight_creditUpdate EC (δ := δ)) $$ [Hinv Hγ]
  · isplitl [Hinv] <;> iassumption
  ihave Hu' := (Entails.of_eq (creditUpdate_def _ _ _ _)) $$ Hu
  icases Hu' with ⟨%B, HB, -, Hlast⟩
  iapply (Entails.of_eq (landingUpdate_def _ _ _).symm)
  iintro -
  iapply Hlast $$ %0 %1 %(by decide)
  isplitl [HB] <;> iassumption

/-- Waiting for one unit on a semaphore, while owing what sits above it. -/
theorem wp_await {b : Sem sig} {n : ℕ} {D : sProp 𝕄}
    {k : PUnit → Prog (TpuEff nD τ sig (Elt F) Λ₀ .tc) α} {O : CellTallies nD τ sig Unit} {W : Waits sig Unit} (hn : n = 1) :
    iprop(Tock c (.reg b) 1 D ∗ cred (tallyAt ((c : Thread nD τ), .reg b) () 1) ∗ owes (c : Thread nD τ) O W ∗ MayWait (c : Thread nD τ) (.reg b) () O)
      ⊢ iprop((iprop(D ∗ semVal ((c : Thread nD τ), .reg b) 0 ∗ owes (c : Thread nD τ) O (insert (SemLoc.reg b, ()) W)) -∗ Wp c (k ⟨⟩) Q)
          -∗ Wp c (.op (.semWait b n) k) Q) := by
  subst hn
  unfold Tock
  iintro ⟨⟨%γ, %δ, %κ, Hinv, Hδ⟩, Hc, HO, HM⟩ Hk
  iapply (wp_semWait_token 𝒱₀ (c : Thread nD τ) none Set.univ ()) $$ [Hc HO HM]
  · isplitl [Hc]; · iexact Hc
    isplitl [HO] <;> iassumption
  iapply (flight_lower EC (Set.mem_univ κ))
  isplitl [Hinv]; · iexact Hinv
  isplitl [Hδ]; · iexact Hδ
  iintro ⟨Hv, HD⟩ HO
  iapply Hk
  isplitl [HD]; · iexact HD
  isplitl [Hv] <;> iassumption

/-- Loading a slab of a buffer through its full rectangle: the values of the squeezed piece, recast. -/
theorem wp_loadSlab {cs : CoreSpace} {s' : Shape} {M : Memref sig .tc cs s e} {r : Rect s} {hr : ∀ a, r.stride a = 1} {hq : r.shape.Squeezes s'}
    {S : Memref sig .tc cs s' e} {hl : M.view.LoadsAt r} {k : (r.shape.Idx → Elt F e) → Prog (TpuEff nD τ sig (Elt F) Λ₀ .tc) α} {v : s'.Idx → Elt F e}
    (hS : (M.slice r hr).squeeze s' hq = S) (hc : s'.ShapeCasts r.shape) :
    (own c S v : sProp 𝕄) ⊢ iprop((own c S v -∗ Wp c (k (shapeCast r.shape v hc)) Q) -∗ Wp c (.op (.load M r hl) k) Q) := by
  subst hS
  iintro H Hk
  ihave H' := (own_open c _ v) $$ H
  icases H' with ⟨%f, %hf, H⟩
  have hv : (M.access r).read (Elt F) f = shapeCast r.shape v hc := by
    subst hf
    exact (shapeCast_shapeCast _ hc.symm hc).symm
  rw [← hv]
  iapply (wp_load_rect 𝒱₀ (c : Thread nD τ) none Set.univ (m := M) (r := r)
    (View.set_reshape (M.view.slice r) hq.numel_eq).symm.subset) $$ H
  iintro H
  iapply Hk
  iapply (own_mk c _ v f hf) $$ H

/-- Storing a slab through its full rectangle: the squeezed piece then reads the value stored, recast. -/
theorem wp_storeSlab {cs : CoreSpace} {s' : Shape} {M : Memref sig .tc cs s e} {r : Rect s} {hr : ∀ a, r.stride a = 1} {hq : r.shape.Squeezes s'}
    {S : Memref sig .tc cs s' e} {w : r.shape.Idx → Elt F e} {hx : (M.access r).Stores Finset.univ} {hm : Finset.univ = Finset.univ ∨ ∀ a, r.stride a = 1}
    {k : PUnit → Prog (TpuEff nD τ sig (Elt F) Λ₀ .tc) α}
    (hS : (M.slice r hr).squeeze s' hq = S) (hc : r.shape.ShapeCasts s') :
    (free c S : sProp 𝕄) ⊢ iprop((own c S (shapeCast s' w hc) -∗ Wp c (k ⟨⟩) Q) -∗ Wp c (.op (.store M r w Finset.univ hx hm) k) Q) := by
  subst hS
  unfold free
  iintro ⟨%v, H⟩ Hk
  ihave H' := (own_open c _ v) $$ H
  icases H' with ⟨%f, %hf, H⟩
  iapply (wp_store 𝒱₀ (c : Thread nD τ) none Set.univ (m := M) (r := r) (w := w) (Mk := Finset.univ)
    (View.set_reshape (M.view.slice r) hq.numel_eq).symm.subset) $$ H
  iintro H
  iapply Hk
  iapply (own_mk c ((M.slice r hr).squeeze s' hq) (shapeCast s' w hc) ((M.access r).write (Elt F) f w Finset.univ) ?_) $$ H
  show shapeCast s' ((M.access r).read (Elt F) ((M.access r).write (Elt F) f w Finset.univ)) hc = shapeCast s' w hc
  rw [View.read_write_univ]

/-- Loading a rectangle of a piece owned whole. -/
theorem wp_loadRect {cs : CoreSpace} {M : Memref sig .tc cs s e} {r : Rect s}
    {hl : M.view.LoadsAt r} {k : (r.shape.Idx → Elt F e) → Prog (TpuEff nD τ sig (Elt F) Λ₀ .tc) α} {v : s.Idx → Elt F e} :
    (own c M v : sProp 𝕄) ⊢ iprop((own c M v -∗ Wp c (k (fun j => v (r.emb j))) Q) -∗ Wp c (.op (.load M r hl) k) Q) := by
  iintro H Hk
  ihave H' := (own_open c _ v) $$ H
  icases H' with ⟨%f, %hf, H⟩
  have hv : (M.access r).read (Elt F) f = fun j => v (r.emb j) := by subst hf; rfl
  rw [← hv]
  iapply (wp_load_rect 𝒱₀ (c : Thread nD τ) none Set.univ (m := M) (r := r) (View.set_slice_subset _ _)) $$ H
  iintro H
  iapply Hk
  iapply (own_mk c _ v f hf) $$ H

end Steps

end Cert.Pair

end
-- ==== Proof.Views.lean ====
/-
The buffers' pieces that the kernel's transfers name, by chunk number, and the offsets the kernel computes them from.
-/
module

public import proofs.«01_k».proof.Proof.Base

@[expose] public section

set_option maxRecDepth 16384

noncomputable section

namespace Cert.Pair

open Cert.KernelIdeal Cert.KernelIdeal.Gen
open Idealize.ShloMosaic
open Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The buffers and semaphore arrays the body is run with -/

abbrev a0 : Memref sig .tc .hbm S1x2048x32x128 .f32 := Memref.whole main_arg0
abbrev a1 : Memref sig .tc .hbm S4096x8192 .f32 := Memref.whole main_arg1
abbrev a2 : Memref sig .tc .hbm S1x1024x8192 .f32 := Memref.whole main_v1_0
abbrev a3 : Memref sig .tc .hbm S32x1024x256 .f32 := Memref.whole main_v1_1
abbrev a4 : Memref sig .tc .vmem S2048x4096 .f32 := Memref.whole cc0_scratch0
abbrev a5 : Memref sig .tc .vmem S2x4096x256 .f32 := Memref.whole cc0_scratch1
abbrev a6 : Memref sig .tc .vmem S5x1024x256 .f32 := Memref.whole cc0_scratch2
abbrev a7 : Memref sig .tc .vmem S2x1024x256 .f32 := Memref.whole cc0_scratch3
abbrev a8 : Memref sig .tc .vmem S2x1024x256 .f32 := Memref.whole cc0_scratch4
abbrev a9 : Memref sig .tc .vmem S2x1024x256 .f32 := Memref.whole cc0_scratch5
theorem h0 : a0.IsWhole := Memref.isWhole_whole _
theorem h1 : a1.IsWhole := Memref.isWhole_whole _
theorem h2 : a2.IsWhole := Memref.isWhole_whole _
theorem h3 : a3.IsWhole := Memref.isWhole_whole _
theorem h4 : a4.IsWhole := Memref.isWhole_whole _
theorem h5 : a5.IsWhole := Memref.isWhole_whole _
theorem h6 : a6.IsWhole := Memref.isWhole_whole _
theorem h7 : a7.IsWhole := Memref.isWhole_whole _
theorem h8 : a8.IsWhole := Memref.isWhole_whole _
theorem h9 : a9.IsWhole := Memref.isWhole_whole _
abbrev a10 : DmaSems sig S32 := cc0_scratch6
abbrev a11 : DmaSems sig S2 := cc0_scratch7
abbrev a12 : DmaSems sig S2 := cc0_scratch8
abbrev a13 : DmaSems sig S32 := cc0_scratch9
abbrev a14 : DmaSems sig S2 := cc0_scratch10
abbrev a15 : DmaSems sig S2 := cc0_scratch11

/-- The runtime's barrier semaphore. -/
abbrev barS : Sem sig := (SemArray.scalar (sig.barrier 0 rfl) : Sems sig S_).sem

/-! ## Pieces and semaphores by number -/

theorem srcHead_inb (j : ℕ) : ∀ a, (![0, 0, j % 32, 0] : Fin 4 → ℕ) a + S1x2048x1x128.size a ≤ S1x2048x32x128.size a := by
  intro a
  have := Nat.mod_lt j (show 0 < 32 by decide)
  match a with
  | ⟨0, _⟩ => show 0 + 1 ≤ 1; omega
  | ⟨1, _⟩ => show 0 + 2048 ≤ 2048; omega
  | ⟨2, _⟩ => show j % 32 + 1 ≤ 32; omega
  | ⟨3, _⟩ => show 0 + 128 ≤ 128; omega
/-- Head `j` of the device's part of `O`. -/
def srcHead (j : ℕ) : Memref sig .tc .hbm S2048x128 .f32 :=
  (a0.slice (Rect.unit (s := S1x2048x32x128) ![0, 0, j % 32, 0] S1x2048x1x128.size (srcHead_inb j)) (fun _ => rfl)).squeeze S2048x128 squeezes_S1x2048x1x128_S2048x128
theorem srcHead_eq {off : Fin 4 → ℕ} {h : ∀ a, off a + S1x2048x1x128.size a ≤ S1x2048x32x128.size a} {h' : ∀ a, (Rect.unit (s := S1x2048x32x128) off S1x2048x1x128.size h).stride a = 1} (j : ℕ) (he : off = ![0, 0, j % 32, 0]) :
    (a0.slice (Rect.unit (s := S1x2048x32x128) off S1x2048x1x128.size h) h').squeeze S2048x128 squeezes_S1x2048x1x128_S2048x128 = srcHead j := by subst he; rfl

theorem dstHead_inb (j : ℕ) : ∀ a, (![0, 128 * (j % 32)] : Fin 2 → ℕ) a + S2048x128.size a ≤ S2048x4096.size a := by
  intro a
  have := Nat.mod_lt j (show 0 < 32 by decide)
  match a with
  | ⟨0, _⟩ => show 0 + 2048 ≤ 2048; omega
  | ⟨1, _⟩ => show 128 * (j % 32) + 128 ≤ 4096; omega
/-- The columns of the staged matrix that head `j` fills. -/
def dstHead (j : ℕ) : Memref sig .tc .vmem S2048x128 .f32 :=
  (a4.slice (Rect.unit (s := S2048x4096) ![0, 128 * (j % 32)] S2048x128.size (dstHead_inb j)) (fun _ => rfl))
theorem dstHead_eq {off : Fin 2 → ℕ} {h : ∀ a, off a + S2048x128.size a ≤ S2048x4096.size a} {h' : ∀ a, (Rect.unit (s := S2048x4096) off S2048x128.size h).stride a = 1} (j : ℕ) (he : off = ![0, 128 * (j % 32)]) :
    (a4.slice (Rect.unit (s := S2048x4096) off S2048x128.size h) h') = dstHead j := by subst he; rfl

theorem woChunk_inb (j : ℕ) : ∀ a, (![0, 256 * (j % 32)] : Fin 2 → ℕ) a + S4096x256.size a ≤ S4096x8192.size a := by
  intro a
  have := Nat.mod_lt j (show 0 < 32 by decide)
  match a with
  | ⟨0, _⟩ => show 0 + 4096 ≤ 4096; omega
  | ⟨1, _⟩ => show 256 * (j % 32) + 256 ≤ 8192; omega
/-- Column chunk `j` of the device's part of `Wo`. -/
def woChunk (j : ℕ) : Memref sig .tc .hbm S4096x256 .f32 :=
  (a1.slice (Rect.unit (s := S4096x8192) ![0, 256 * (j % 32)] S4096x256.size (woChunk_inb j)) (fun _ => rfl))
theorem woChunk_eq {off : Fin 2 → ℕ} {h : ∀ a, off a + S4096x256.size a ≤ S4096x8192.size a} {h' : ∀ a, (Rect.unit (s := S4096x8192) off S4096x256.size h).stride a = 1} (j : ℕ) (he : off = ![0, 256 * (j % 32)]) :
    (a1.slice (Rect.unit (s := S4096x8192) off S4096x256.size h) h') = woChunk j := by subst he; rfl

theorem woSlot_inb (j : ℕ) : ∀ a, (![j % 2, 0, 0] : Fin 3 → ℕ) a + S1x4096x256.size a ≤ S2x4096x256.size a := by
  intro a
  have := Nat.mod_lt j (show 0 < 2 by decide)
  match a with
  | ⟨0, _⟩ => show j % 2 + 1 ≤ 2; omega
  | ⟨1, _⟩ => show 0 + 4096 ≤ 4096; omega
  | ⟨2, _⟩ => show 0 + 256 ≤ 256; omega
/-- The slot that column chunk `j` is staged in. -/
def woSlot (j : ℕ) : Memref sig .tc .vmem S4096x256 .f32 :=
  (a5.slice (Rect.unit (s := S2x4096x256) ![j % 2, 0, 0] S1x4096x256.size (woSlot_inb j)) (fun _ => rfl)).squeeze S4096x256 squeezes_S1x4096x256_S4096x256
theorem woSlot_eq {off : Fin 3 → ℕ} {h : ∀ a, off a + S1x4096x256.size a ≤ S2x4096x256.size a} {h' : ∀ a, (Rect.unit (s := S2x4096x256) off S1x4096x256.size h).stride a = 1} (j : ℕ) (he : off = ![j % 2, 0, 0]) :
    (a5.slice (Rect.unit (s := S2x4096x256) off S1x4096x256.size h) h').squeeze S4096x256 squeezes_S1x4096x256_S4096x256 = woSlot j := by subst he; rfl

theorem ringSlot_inb (j : ℕ) : ∀ a, (![j % 5, 0, 0] : Fin 3 → ℕ) a + S1x1024x256.size a ≤ S5x1024x256.size a := by
  intro a
  have := Nat.mod_lt j (show 0 < 5 by decide)
  match a with
  | ⟨0, _⟩ => show j % 5 + 1 ≤ 5; omega
  | ⟨1, _⟩ => show 0 + 1024 ≤ 1024; omega
  | ⟨2, _⟩ => show 0 + 256 ≤ 256; omega
/-- The slot that keeps the device's own partial product of chunk `j`. -/
def ringSlot (j : ℕ) : Memref sig .tc .vmem S1024x256 .f32 :=
  (a6.slice (Rect.unit (s := S5x1024x256) ![j % 5, 0, 0] S1x1024x256.size (ringSlot_inb j)) (fun _ => rfl)).squeeze S1024x256 squeezes_S1x1024x256_S1024x256
theorem ringSlot_eq {off : Fin 3 → ℕ} {h : ∀ a, off a + S1x1024x256.size a ≤ S5x1024x256.size a} {h' : ∀ a, (Rect.unit (s := S5x1024x256) off S1x1024x256.size h).stride a = 1} (j : ℕ) (he : off = ![j % 5, 0, 0]) :
    (a6.slice (Rect.unit (s := S5x1024x256) off S1x1024x256.size h) h').squeeze S1024x256 squeezes_S1x1024x256_S1024x256 = ringSlot j := by subst he; rfl

theorem sendSlot_inb (j : ℕ) : ∀ a, (![j % 2, 0, 0] : Fin 3 → ℕ) a + S1x1024x256.size a ≤ S2x1024x256.size a := by
  intro a
  have := Nat.mod_lt j (show 0 < 2 by decide)
  match a with
  | ⟨0, _⟩ => show j % 2 + 1 ≤ 2; omega
  | ⟨1, _⟩ => show 0 + 1024 ≤ 1024; omega
  | ⟨2, _⟩ => show 0 + 256 ≤ 256; omega
/-- The slot that the partial product of chunk `j` is sent from. -/
def sendSlot (j : ℕ) : Memref sig .tc .vmem S1024x256 .f32 :=
  (a7.slice (Rect.unit (s := S2x1024x256) ![j % 2, 0, 0] S1x1024x256.size (sendSlot_inb j)) (fun _ => rfl)).squeeze S1024x256 squeezes_S1x1024x256_S1024x256
theorem sendSlot_eq {off : Fin 3 → ℕ} {h : ∀ a, off a + S1x1024x256.size a ≤ S2x1024x256.size a} {h' : ∀ a, (Rect.unit (s := S2x1024x256) off S1x1024x256.size h).stride a = 1} (j : ℕ) (he : off = ![j % 2, 0, 0]) :
    (a7.slice (Rect.unit (s := S2x1024x256) off S1x1024x256.size h) h').squeeze S1024x256 squeezes_S1x1024x256_S1024x256 = sendSlot j := by subst he; rfl

theorem addSlot_inb (j : ℕ) : ∀ a, (![j % 2, 0, 0] : Fin 3 → ℕ) a + S1x1024x256.size a ≤ S2x1024x256.size a := by
  intro a
  have := Nat.mod_lt j (show 0 < 2 by decide)
  match a with
  | ⟨0, _⟩ => show j % 2 + 1 ≤ 2; omega
  | ⟨1, _⟩ => show 0 + 1024 ≤ 1024; omega
  | ⟨2, _⟩ => show 0 + 256 ≤ 256; omega
/-- The slot that the partner's partial product of chunk `j` is staged in. -/
def addSlot (j : ℕ) : Memref sig .tc .vmem S1024x256 .f32 :=
  (a8.slice (Rect.unit (s := S2x1024x256) ![j % 2, 0, 0] S1x1024x256.size (addSlot_inb j)) (fun _ => rfl)).squeeze S1024x256 squeezes_S1x1024x256_S1024x256
theorem addSlot_eq {off : Fin 3 → ℕ} {h : ∀ a, off a + S1x1024x256.size a ≤ S2x1024x256.size a} {h' : ∀ a, (Rect.unit (s := S2x1024x256) off S1x1024x256.size h).stride a = 1} (j : ℕ) (he : off = ![j % 2, 0, 0]) :
    (a8.slice (Rect.unit (s := S2x1024x256) off S1x1024x256.size h) h').squeeze S1024x256 squeezes_S1x1024x256_S1024x256 = addSlot j := by subst he; rfl

theorem resSlot_inb (j : ℕ) : ∀ a, (![j % 2, 0, 0] : Fin 3 → ℕ) a + S1x1024x256.size a ≤ S2x1024x256.size a := by
  intro a
  have := Nat.mod_lt j (show 0 < 2 by decide)
  match a with
  | ⟨0, _⟩ => show j % 2 + 1 ≤ 2; omega
  | ⟨1, _⟩ => show 0 + 1024 ≤ 1024; omega
  | ⟨2, _⟩ => show 0 + 256 ≤ 256; omega
/-- The slot that the sum of chunk `j` is written out from. -/
def resSlot (j : ℕ) : Memref sig .tc .vmem S1024x256 .f32 :=
  (a9.slice (Rect.unit (s := S2x1024x256) ![j % 2, 0, 0] S1x1024x256.size (resSlot_inb j)) (fun _ => rfl)).squeeze S1024x256 squeezes_S1x1024x256_S1024x256
theorem resSlot_eq {off : Fin 3 → ℕ} {h : ∀ a, off a + S1x1024x256.size a ≤ S2x1024x256.size a} {h' : ∀ a, (Rect.unit (s := S2x1024x256) off S1x1024x256.size h).stride a = 1} (j : ℕ) (he : off = ![j % 2, 0, 0]) :
    (a9.slice (Rect.unit (s := S2x1024x256) off S1x1024x256.size h) h').squeeze S1024x256 squeezes_S1x1024x256_S1024x256 = resSlot j := by subst he; rfl

theorem recvSlot_inb (j : ℕ) : ∀ a, (![j % 32, 0, 0] : Fin 3 → ℕ) a + S1x1024x256.size a ≤ S32x1024x256.size a := by
  intro a
  have := Nat.mod_lt j (show 0 < 32 by decide)
  match a with
  | ⟨0, _⟩ => show j % 32 + 1 ≤ 32; omega
  | ⟨1, _⟩ => show 0 + 1024 ≤ 1024; omega
  | ⟨2, _⟩ => show 0 + 256 ≤ 256; omega
/-- Where the partner's partial product of chunk `j` arrives. -/
def recvSlot (j : ℕ) : Memref sig .tc .hbm S1024x256 .f32 :=
  (a3.slice (Rect.unit (s := S32x1024x256) ![j % 32, 0, 0] S1x1024x256.size (recvSlot_inb j)) (fun _ => rfl)).squeeze S1024x256 squeezes_S1x1024x256_S1024x256
theorem recvSlot_eq {off : Fin 3 → ℕ} {h : ∀ a, off a + S1x1024x256.size a ≤ S32x1024x256.size a} {h' : ∀ a, (Rect.unit (s := S32x1024x256) off S1x1024x256.size h).stride a = 1} (j : ℕ) (he : off = ![j % 32, 0, 0]) :
    (a3.slice (Rect.unit (s := S32x1024x256) off S1x1024x256.size h) h').squeeze S1024x256 squeezes_S1x1024x256_S1024x256 = recvSlot j := by subst he; rfl

theorem outCol_inb (j : ℕ) : ∀ a, (![0, 0, 256 * (j % 32)] : Fin 3 → ℕ) a + S1x1024x256.size a ≤ S1x1024x8192.size a := by
  intro a
  have := Nat.mod_lt j (show 0 < 32 by decide)
  match a with
  | ⟨0, _⟩ => show 0 + 1 ≤ 1; omega
  | ⟨1, _⟩ => show 0 + 1024 ≤ 1024; omega
  | ⟨2, _⟩ => show 256 * (j % 32) + 256 ≤ 8192; omega
/-- Column chunk `j` of the result. -/
def outCol (j : ℕ) : Memref sig .tc .hbm S1024x256 .f32 :=
  (a2.slice (Rect.unit (s := S1x1024x8192) ![0, 0, 256 * (j % 32)] S1x1024x256.size (outCol_inb j)) (fun _ => rfl)).squeeze S1024x256 squeezes_S1x1024x256_S1024x256
theorem outCol_eq {off : Fin 3 → ℕ} {h : ∀ a, off a + S1x1024x256.size a ≤ S1x1024x8192.size a} {h' : ∀ a, (Rect.unit (s := S1x1024x8192) off S1x1024x256.size h).stride a = 1} (j : ℕ) (he : off = ![0, 0, 256 * (j % 32)]) :
    (a2.slice (Rect.unit (s := S1x1024x8192) off S1x1024x256.size h) h').squeeze S1024x256 squeezes_S1x1024x256_S1024x256 = outCol j := by subst he; rfl

theorem impSem_inb (j : ℕ) : ∀ a, (![j % 32] : Fin 1 → ℕ) a + S1.size a ≤ S32.size a := by
  intro a
  have := Nat.mod_lt j (show 0 < 32 by decide)
  match a with
  | ⟨0, _⟩ => show j % 32 + 1 ≤ 32; omega
/-- The semaphore of head `j`'s import. -/
def impSem (j : ℕ) : DmaSem sig :=
  ((a10.slice (Rect.unit (s := S32) ![j % 32] S1.size (impSem_inb j))).squeeze S_ squeezes_S1_S_).sem
theorem impSem_eq {off : Fin 1 → ℕ} {h : ∀ a, off a + S1.size a ≤ S32.size a} (j : ℕ) (he : off = ![j % 32]) :
    ((a10.slice (Rect.unit (s := S32) off S1.size h)).squeeze S_ squeezes_S1_S_).sem = impSem j := by subst he; rfl
theorem impSem_mod (j : ℕ) : impSem (j % 32) = impSem j := impSem_eq j (by rw [Nat.mod_mod])

theorem woSem_inb (j : ℕ) : ∀ a, (![j % 2] : Fin 1 → ℕ) a + S1.size a ≤ S2.size a := by
  intro a
  have := Nat.mod_lt j (show 0 < 2 by decide)
  match a with
  | ⟨0, _⟩ => show j % 2 + 1 ≤ 2; omega
/-- The semaphore of chunk `j` of `Wo`'s import. -/
def woSem (j : ℕ) : DmaSem sig :=
  ((a11.slice (Rect.unit (s := S2) ![j % 2] S1.size (woSem_inb j))).squeeze S_ squeezes_S1_S_).sem
theorem woSem_eq {off : Fin 1 → ℕ} {h : ∀ a, off a + S1.size a ≤ S2.size a} (j : ℕ) (he : off = ![j % 2]) :
    ((a11.slice (Rect.unit (s := S2) off S1.size h)).squeeze S_ squeezes_S1_S_).sem = woSem j := by subst he; rfl
theorem woSem_mod (j : ℕ) : woSem (j % 2) = woSem j := woSem_eq j (by rw [Nat.mod_mod])

theorem sendSem_inb (j : ℕ) : ∀ a, (![j % 2] : Fin 1 → ℕ) a + S1.size a ≤ S2.size a := by
  intro a
  have := Nat.mod_lt j (show 0 < 2 by decide)
  match a with
  | ⟨0, _⟩ => show j % 2 + 1 ≤ 2; omega
/-- The sender's semaphore of chunk `j`. -/
def sendSem (j : ℕ) : DmaSem sig :=
  ((a12.slice (Rect.unit (s := S2) ![j % 2] S1.size (sendSem_inb j))).squeeze S_ squeezes_S1_S_).sem
theorem sendSem_eq {off : Fin 1 → ℕ} {h : ∀ a, off a + S1.size a ≤ S2.size a} (j : ℕ) (he : off = ![j % 2]) :
    ((a12.slice (Rect.unit (s := S2) off S1.size h)).squeeze S_ squeezes_S1_S_).sem = sendSem j := by subst he; rfl
theorem sendSem_mod (j : ℕ) : sendSem (j % 2) = sendSem j := sendSem_eq j (by rw [Nat.mod_mod])

theorem recvSem_inb (j : ℕ) : ∀ a, (![j % 32] : Fin 1 → ℕ) a + S1.size a ≤ S32.size a := by
  intro a
  have := Nat.mod_lt j (show 0 < 32 by decide)
  match a with
  | ⟨0, _⟩ => show j % 32 + 1 ≤ 32; omega
/-- The receiver's semaphore of chunk `j`. -/
def recvSem (j : ℕ) : DmaSem sig :=
  ((a13.slice (Rect.unit (s := S32) ![j % 32] S1.size (recvSem_inb j))).squeeze S_ squeezes_S1_S_).sem
theorem recvSem_eq {off : Fin 1 → ℕ} {h : ∀ a, off a + S1.size a ≤ S32.size a} (j : ℕ) (he : off = ![j % 32]) :
    ((a13.slice (Rect.unit (s := S32) off S1.size h)).squeeze S_ squeezes_S1_S_).sem = recvSem j := by subst he; rfl
theorem recvSem_mod (j : ℕ) : recvSem (j % 32) = recvSem j := recvSem_eq j (by rw [Nat.mod_mod])

theorem addSem_inb (j : ℕ) : ∀ a, (![j % 2] : Fin 1 → ℕ) a + S1.size a ≤ S2.size a := by
  intro a
  have := Nat.mod_lt j (show 0 < 2 by decide)
  match a with
  | ⟨0, _⟩ => show j % 2 + 1 ≤ 2; omega
/-- The semaphore of staging the received chunk `j`. -/
def addSem (j : ℕ) : DmaSem sig :=
  ((a14.slice (Rect.unit (s := S2) ![j % 2] S1.size (addSem_inb j))).squeeze S_ squeezes_S1_S_).sem
theorem addSem_eq {off : Fin 1 → ℕ} {h : ∀ a, off a + S1.size a ≤ S2.size a} (j : ℕ) (he : off = ![j % 2]) :
    ((a14.slice (Rect.unit (s := S2) off S1.size h)).squeeze S_ squeezes_S1_S_).sem = addSem j := by subst he; rfl
theorem addSem_mod (j : ℕ) : addSem (j % 2) = addSem j := addSem_eq j (by rw [Nat.mod_mod])

theorem resSem_inb (j : ℕ) : ∀ a, (![j % 2] : Fin 1 → ℕ) a + S1.size a ≤ S2.size a := by
  intro a
  have := Nat.mod_lt j (show 0 < 2 by decide)
  match a with
  | ⟨0, _⟩ => show j % 2 + 1 ≤ 2; omega
/-- The semaphore of writing chunk `j` out. -/
def resSem (j : ℕ) : DmaSem sig :=
  ((a15.slice (Rect.unit (s := S2) ![j % 2] S1.size (resSem_inb j))).squeeze S_ squeezes_S1_S_).sem
theorem resSem_eq {off : Fin 1 → ℕ} {h : ∀ a, off a + S1.size a ≤ S2.size a} (j : ℕ) (he : off = ![j % 2]) :
    ((a15.slice (Rect.unit (s := S2) off S1.size h)).squeeze S_ squeezes_S1_S_).sem = resSem j := by subst he; rfl
theorem resSem_mod (j : ℕ) : resSem (j % 2) = resSem j := resSem_eq j (by rw [Nat.mod_mod])

theorem woSlot_mod (j : ℕ) : woSlot (j % 2) = woSlot j := woSlot_eq j (by rw [Nat.mod_mod])
theorem ringSlot_mod (j : ℕ) : ringSlot (j % 5) = ringSlot j := ringSlot_eq j (by rw [Nat.mod_mod])
theorem sendSlot_mod (j : ℕ) : sendSlot (j % 2) = sendSlot j := sendSlot_eq j (by rw [Nat.mod_mod])
theorem addSlot_mod (j : ℕ) : addSlot (j % 2) = addSlot j := addSlot_eq j (by rw [Nat.mod_mod])
theorem resSlot_mod (j : ℕ) : resSlot (j % 2) = resSlot j := resSlot_eq j (by rw [Nat.mod_mod])

/-! ## The offsets the kernel computes -/

theorem cond1_iff : ∀ t : Fin k0_t1_loop.trips, k0_cond1 t = 1#1 ↔ t.val + 1 < 32 := by decide +kernel
theorem cond2_iff : ∀ t : Fin k0_t1_loop.trips, k0_cond2 t = 1#1 ↔ 4 ≤ t.val := by decide +kernel
theorem cond3_iff : ∀ t : Fin k0_t1_loop.trips, k0_cond3 t = 1#1 ↔ 2 ≤ t.val := by decide +kernel
theorem cond4_iff : ∀ t : Fin k0_t1_loop.trips, k0_cond4 t = 1#1 ↔ 4 ≤ t.val := by decide +kernel
theorem cond5_iff : ∀ t : Fin k0_t1_loop.trips, k0_cond4 t = 1#1 → (k0_cond5 t = 1#1 ↔ 6 ≤ t.val) := by decide +kernel
theorem cond6_iff : ∀ t : Fin k0_t2_loop.trips, k0_cond6 t = 1#1 := by decide +kernel
theorem off1 : ∀ t : Fin k0_t1_loop.trips, k0_cond1 t = 1#1 → k0_off1 t = ![(t.val + 1) % 2] := by decide +kernel
theorem off2 : ∀ t : Fin k0_t1_loop.trips, k0_cond1 t = 1#1 → k0_off2 t = ![(t.val + 1) % 2, 0, 0] := by decide +kernel
theorem off3 : ∀ t : Fin k0_t1_loop.trips, k0_cond1 t = 1#1 → k0_off3 t = ![0, 256 * ((t.val + 1) % 32)] := by decide +kernel
theorem off4 : ∀ t : Fin k0_t1_loop.trips, k0_cond2 t = 1#1 → k0_off4 t = ![(t.val - 4) % 32] := by decide +kernel
theorem off5 : ∀ t : Fin k0_t1_loop.trips, k0_cond2 t = 1#1 → k0_off5 t = ![(t.val - 4) % 32, 0, 0] := by decide +kernel
theorem off6 : ∀ t : Fin k0_t1_loop.trips, k0_cond2 t = 1#1 → k0_off6 t = ![(t.val - 4) % 2, 0, 0] := by decide +kernel
theorem off7 : ∀ t : Fin k0_t1_loop.trips, k0_cond2 t = 1#1 → k0_off7 t = ![(t.val - 4) % 2] := by decide +kernel
theorem off8 : ∀ t : Fin k0_t1_loop.trips, k0_off8 t = ![t.val % 2] := by decide +kernel
theorem off9 : ∀ t : Fin k0_t1_loop.trips, k0_off9 t = ![t.val % 2, 0, 0] := by decide +kernel
theorem off10 : ∀ t : Fin k0_t1_loop.trips, k0_off10 t = ![0, 256 * (t.val % 32)] := by decide +kernel
theorem off12 : ∀ t : Fin k0_t1_loop.trips, k0_off12 t = ![t.val % 2, 0, 0] := by decide +kernel
theorem off13 : ∀ t : Fin k0_t1_loop.trips, k0_off13 t = ![t.val % 5, 0, 0] := by decide +kernel
theorem off14 : ∀ t : Fin k0_t1_loop.trips, k0_cond3 t = 1#1 → k0_off14 t = ![t.val % 2] := by decide +kernel
theorem off15 : ∀ t : Fin k0_t1_loop.trips, k0_cond3 t = 1#1 → k0_off15 t = ![t.val % 2, 0, 0] := by decide +kernel
theorem off18 : ∀ t : Fin k0_t1_loop.trips, k0_off18 t = ![t.val % 2, 0, 0] := by decide +kernel
theorem off19 : ∀ t : Fin k0_t1_loop.trips, k0_off19 t = ![t.val % 32] := by decide +kernel
theorem off20 : ∀ t : Fin k0_t1_loop.trips, k0_off20 t = ![t.val % 32, 0, 0] := by decide +kernel
theorem off21 : ∀ t : Fin k0_t1_loop.trips, k0_off21 t = ![t.val % 2, 0, 0] := by decide +kernel
theorem off22 : ∀ t : Fin k0_t1_loop.trips, k0_cond4 t = 1#1 → k0_off22 t = ![(t.val - 4) % 2] := by decide +kernel
theorem off23 : ∀ t : Fin k0_t1_loop.trips, k0_cond4 t = 1#1 → k0_off23 t = ![(t.val - 4) % 2, 0, 0] := by decide +kernel
theorem off24 : ∀ t : Fin k0_t1_loop.trips, k0_cond4 t = 1#1 → k0_off24 t = ![(t.val - 4) % 32, 0, 0] := by decide +kernel
theorem off25 : ∀ t : Fin k0_t1_loop.trips, k0_cond4 t = 1#1 → k0_cond5 t = 1#1 → k0_off25 t = ![(t.val - 4) % 2] := by decide +kernel
theorem off28 : ∀ t : Fin k0_t1_loop.trips, k0_cond4 t = 1#1 → k0_off28 t = ![(t.val - 4) % 5, 0, 0] := by decide +kernel
theorem off29 : ∀ t : Fin k0_t1_loop.trips, k0_cond4 t = 1#1 → k0_off29 t = ![(t.val - 4) % 2, 0, 0] := by decide +kernel
theorem off30 : ∀ t : Fin k0_t1_loop.trips, k0_cond4 t = 1#1 → k0_off30 t = ![0, 0, 256 * ((t.val - 4) % 32)] := by decide +kernel
theorem off31 : ∀ t : Fin k0_t2_loop.trips, k0_off31 t = ![(t.val + 28) % 32] := by decide +kernel
theorem off32 : ∀ t : Fin k0_t2_loop.trips, k0_off32 t = ![(t.val + 28) % 32, 0, 0] := by decide +kernel
theorem off33 : ∀ t : Fin k0_t2_loop.trips, k0_off33 t = ![(t.val + 28) % 2, 0, 0] := by decide +kernel
theorem off34 : ∀ t : Fin k0_t2_loop.trips, k0_off34 t = ![(t.val + 28) % 2] := by decide +kernel
theorem off35 : ∀ t : Fin k0_t2_loop.trips, k0_off35 t = ![(t.val + 28) % 2] := by decide +kernel
theorem off38 : ∀ t : Fin k0_t2_loop.trips, k0_off38 t = ![(t.val + 28) % 5, 0, 0] := by decide +kernel
theorem off39 : ∀ t : Fin k0_t2_loop.trips, k0_off39 t = ![(t.val + 28) % 2, 0, 0] := by decide +kernel
theorem off40 : ∀ t : Fin k0_t2_loop.trips, k0_off40 t = ![0, 0, 256 * ((t.val + 28) % 32)] := by decide +kernel

end Cert.Pair

end
-- ==== Proof.State.lean ====
/-
What a device holds on the way: the values, the families of pieces and transfers, what is owed, and how each step of
the kernel changes them.
-/
module

public import proofs.«01_k».proof.Proof.Views

@[expose] public section

set_option maxRecDepth 16384

noncomputable section

namespace Cert.Pair

open Cert.KernelIdeal Cert.KernelIdeal.Gen
open Idealize.ShloMosaic
open Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The values -/

section Values
variable (m : (ℓ : Loc nD τ sig) → Buf (Elt F) ℓ) (c : Dev nD)

/-- Head `h` of device `c`'s part of `O`. -/
def headVal (h : ℕ) : S2048x128.Idx → Elt F .f32 := (srcHead h).view.read (Elt F) (m ((c : Thread nD τ).loc main_arg0))

/-- An index of a matrix by its row and column. -/
def ix2 {n k : ℕ} (i : Fin n) (j : Fin k) : (⟨2, ![n, k]⟩ : Shape).Idx
  | ⟨0, _⟩ => i
  | ⟨1, _⟩ => j

/-- Device `c`'s part of `O`, its heads side by side as the columns of one matrix. -/
def xVal : S2048x4096.Idx → Elt F .f32 := fun i =>
  headVal m c ((i 1).val / 128) (ix2 (n := 2048) (k := 128) (i 0) ⟨(i 1).val % 128, Nat.mod_lt _ (by decide)⟩)

/-- Column chunk `j` of device `c`'s part of `Wo`. -/
def wVal (j : ℕ) : S4096x256.Idx → Elt F .f32 := (woChunk j).view.read (Elt F) (m ((c : Thread nD τ).loc main_arg1))

/-- The rows device `c` itself ends up with, of its part of `O`, -/
def xOwn : S1024x4096.Idx → Elt F .f32 := fun i =>
  xVal m c ((Rect.unit (s := S2048x4096) (k0_off11 c) S1024x4096.size (k0_off11_inb c)).emb i)
/-- and the rows its partner ends up with. -/
def xSnd : S1024x4096.Idx → Elt F .f32 := fun i =>
  xVal m c ((Rect.unit (s := S2048x4096) (k0_off17 c) S1024x4096.size (k0_off17_inb c)).emb i)

/-- The partial product of chunk `j` that device `c` keeps, -/
def ownVal (j : ℕ) : S1024x256.Idx → Elt F .f32 :=
  shapeCast S1024x256 (k0_pay2 (xOwn m c) (shapeCast S1x4096x256 (wVal m c j) shapeCasts_S1x4096x256_S4096x256.symm)) shapeCasts_S1x1024x256_S1024x256
/-- the one it sends, -/
def sndVal (j : ℕ) : S1024x256.Idx → Elt F .f32 :=
  shapeCast S1024x256 (k0_pay3 (xSnd m c) (shapeCast S1x4096x256 (wVal m c j) shapeCasts_S1x4096x256_S4096x256.symm)) shapeCasts_S1x1024x256_S1024x256
/-- and the one its partner sends it. -/
def rcvVal (j : ℕ) : S1024x256.Idx → Elt F .f32 := sndVal m (peer c) j

/-- Chunk `j` of the result: what the device kept and what it was sent, added. -/
def resVal (j : ℕ) : S1024x256.Idx → Elt F .f32 :=
  shapeCast S1024x256 (k0_pay1 (shapeCast S1x1024x256 (ownVal m c j) shapeCasts_S1024x256_S1x1024x256)
    (shapeCast S1x1024x256 (rcvVal m c j) shapeCasts_S1024x256_S1x1024x256)) shapeCasts_S1x1024x256_S1024x256

end Values

/-! ## Families of pieces in three phases -/

/-- Member `j` of a family whose members below `lo` are through, those from there below `hi` under way, the rest not
    begun. -/
def phase (lo hi : ℕ) (A C B : ℕ → sProp 𝕄) (j : ℕ) : sProp 𝕄 := if j < lo then A j else if j < hi then C j else B j

/-- A family of 32 in three phases. -/
def phases (lo hi : ℕ) (A C B : ℕ → sProp 𝕄) : sProp 𝕄 := bigSep (Finset.range 32) (phase lo hi A C B)

omit [FloatOps F] in
/-- Changing one member of a family. -/
theorem bigSep_step {S : Finset ℕ} {Φ Ψ : ℕ → sProp 𝕄} (j : ℕ) (hj : j ∈ S) (h : ∀ i ∈ S, i ≠ j → Φ i = Ψ i) :
    bigSep S Φ ⊢ iprop(Φ j ∗ (Ψ j -∗ bigSep S Ψ)) := by
  have e₁ : bigSep S Φ = iprop(Φ j ∗ bigSep (S.erase j) Φ) := bigSep_erase hj
  have e₂ : bigSep S Ψ = iprop(Ψ j ∗ bigSep (S.erase j) Ψ) := bigSep_erase hj
  rw [e₁, e₂,
    bigSep_congr (Φ := Φ) (Ψ := Ψ) (s := S.erase j) fun i hi => h i (Finset.mem_of_mem_erase hi) (Finset.ne_of_mem_erase hi)]
  iintro ⟨H, Hr⟩
  isplitl [H]; · iexact H
  iintro H
  isplitl [H] <;> iassumption

omit [FloatOps F] in
theorem bigSep_step_mono {S : Finset ℕ} {Φ Ψ : ℕ → sProp 𝕄} (j : ℕ) (hj : j ∈ S) (h : ∀ i ∈ S, i ≠ j → Φ i ⊢ Ψ i) :
    bigSep S Φ ⊢ iprop(Φ j ∗ (Ψ j -∗ bigSep S Ψ)) := by
  have e₁ : bigSep S Φ = iprop(Φ j ∗ bigSep (S.erase j) Φ) := bigSep_erase hj
  have e₂ : bigSep S Ψ = iprop(Ψ j ∗ bigSep (S.erase j) Ψ) := bigSep_erase hj
  rw [e₁, e₂]
  iintro ⟨H, Hr⟩
  isplitl [H]; · iexact H
  iintro H
  isplitl [H]; · iexact H
  have hm : bigSep (S.erase j) Φ ⊢ bigSep (S.erase j) Ψ :=
    bigSep_mono fun i hi => h i (Finset.mem_of_mem_erase hi) (Finset.ne_of_mem_erase hi)
  iapply hm $$ Hr

omit [FloatOps F] in
/-- The next member begins. -/
theorem phases_begin {lo hi : ℕ} {A C B : ℕ → sProp 𝕄} (h : lo ≤ hi) (hh : hi < 32) :
    phases lo hi A C B ⊢ iprop(B hi ∗ (C hi -∗ phases lo (hi + 1) A C B)) := by
  have e := bigSep_step (S := Finset.range 32) (Φ := phase lo hi A C B) (Ψ := phase lo (hi + 1) A C B) hi (Finset.mem_range.mpr hh)
    (fun i _ hne => by
      unfold phase
      by_cases h1 : i < lo
      · rw [if_pos h1, if_pos h1]
      · rw [if_neg h1, if_neg h1]
        by_cases h2 : i < hi
        · rw [if_pos h2, if_pos (by omega)]
        · rw [if_neg h2, if_neg (by omega)])
  rw [show phase lo hi A C B hi = B hi by unfold phase; rw [if_neg (by omega), if_neg (by omega)],
    show phase lo (hi + 1) A C B hi = C hi by unfold phase; rw [if_neg (by omega), if_pos (by omega)]] at e
  exact e

omit [FloatOps F] in
/-- The first member under way gets through. -/
theorem phases_end {lo hi : ℕ} {A C B : ℕ → sProp 𝕄} (h : lo < hi) (hh : lo < 32) :
    phases lo hi A C B ⊢ iprop(C lo ∗ (A lo -∗ phases (lo + 1) hi A C B)) := by
  have e := bigSep_step (S := Finset.range 32) (Φ := phase lo hi A C B) (Ψ := phase (lo + 1) hi A C B) lo (Finset.mem_range.mpr hh)
    (fun i _ hne => by
      unfold phase
      by_cases h1 : i < lo
      · rw [if_pos h1, if_pos (by omega)]
      · rw [if_neg h1, if_neg (show ¬ i < lo + 1 by omega)])
  rw [show phase lo hi A C B lo = C lo by unfold phase; rw [if_neg (by omega), if_pos h],
    show phase (lo + 1) hi A C B lo = A lo by unfold phase; rw [if_pos (by omega)]] at e
  exact e

omit [FloatOps F] in
/-- Past the last member nothing changes. -/
theorem phases_past {lo hi : ℕ} {A C B : ℕ → sProp 𝕄} (hh : 32 ≤ hi) : phases lo hi A C B = phases lo (hi + 1) A C B :=
  bigSep_congr fun i hi' => by
    have := Finset.mem_range.mp hi'
    unfold phase
    by_cases h1 : i < lo
    · rw [if_pos h1, if_pos h1]
    · rw [if_neg h1, if_neg h1, if_pos (by omega), if_pos (by omega)]

omit [FloatOps F] in
theorem phases_done {A C B : ℕ → sProp 𝕄} {hi : ℕ} : phases 32 hi A C B = bigSep (Finset.range 32) A :=
  bigSep_congr fun i hi' => by unfold phase; rw [if_pos (Finset.mem_range.mp hi')]

omit [FloatOps F] in
theorem phases_none {A C B : ℕ → sProp 𝕄} : phases 0 0 A C B = bigSep (Finset.range 32) B :=
  bigSep_congr fun i hi' => by unfold phase; rw [if_neg (by omega), if_neg (by omega)]

/-! ## What a device owes, and the levels -/

/-- What a chunk's transfer credits. -/
abbrev nSlab : ℕ := (recvSlot 0).view.dmaCredit

/-- What device `c` owes its partner from chunk `k` on. -/
def owed (c : Dev nD) (k : ℕ) : CellTallies nD τ sig Unit :=
  ∑ j ∈ Finset.Ico k 32, tallyAt ((peer c : Thread nD τ), SemLoc.dma (recvSem j)) () nSlab

theorem owed_step (c : Dev nD) (k : ℕ) (h : k < 32) :
    owed c k = owed c (k + 1) + tallyAt ((peer c : Thread nD τ), SemLoc.dma (recvSem k)) () nSlab := by
  have e : Finset.Ico k 32 = insert k (Finset.Ico (k + 1) 32) := by
    ext j; rw [Finset.mem_insert, Finset.mem_Ico, Finset.mem_Ico]; omega
  unfold owed
  rw [e, Finset.sum_insert (fun hk => by have := (Finset.mem_Ico.mp hk).1; omega), add_comm]

theorem owed_end (c : Dev nD) : owed c 32 = 0 := by unfold owed; rw [Finset.Ico_self, Finset.sum_empty]

theorem recvSem_val (j : ℕ) : (recvSem j).val = 36 + j % 32 := by
  rw [← recvSem_mod]
  have h : ∀ i : Fin 32, (recvSem i.val).val = 36 + i.val := by decide +kernel
  exact h ⟨j % 32, Nat.mod_lt _ (by decide)⟩

/-- The level of a DMA semaphore: the receiving ones rise with the chunk, the others are at the bottom. -/
def rlev (q : DmaSem sig) : ℕ := if 36 ≤ q.val ∧ q.val < 68 then q.val - 34 else 0

theorem rlev_recv (j : ℕ) : rlev (recvSem j) = j % 32 + 2 := by
  unfold rlev; rw [recvSem_val]; have := Nat.mod_lt j (show 0 < 32 by decide); rw [if_pos (by omega)]; omega

theorem rlev_imp (j : ℕ) : rlev (impSem j) = 0 := by
  rw [← impSem_mod]
  have h : ∀ i : Fin 32, rlev (impSem i.val) = 0 := by decide +kernel
  exact h ⟨j % 32, Nat.mod_lt _ (by decide)⟩
theorem rlev_wo (j : ℕ) : rlev (woSem j) = 0 := by
  rw [← woSem_mod]
  have h : ∀ i : Fin 2, rlev (woSem i.val) = 0 := by decide +kernel
  exact h ⟨j % 2, Nat.mod_lt _ (by decide)⟩
theorem rlev_send (j : ℕ) : rlev (sendSem j) = 0 := by
  rw [← sendSem_mod]
  have h : ∀ i : Fin 2, rlev (sendSem i.val) = 0 := by decide +kernel
  exact h ⟨j % 2, Nat.mod_lt _ (by decide)⟩
theorem rlev_add (j : ℕ) : rlev (addSem j) = 0 := by
  rw [← addSem_mod]
  have h : ∀ i : Fin 2, rlev (addSem i.val) = 0 := by decide +kernel
  exact h ⟨j % 2, Nat.mod_lt _ (by decide)⟩
theorem rlev_res (j : ℕ) : rlev (resSem j) = 0 := by
  rw [← resSem_mod]
  have h : ∀ i : Fin 2, rlev (resSem i.val) = 0 := by decide +kernel
  exact h ⟨j % 2, Nat.mod_lt _ (by decide)⟩

def L (g : GSem nD τ sig) : Finset Unit := if g.1.2 = .tc then {()} else ∅
/-- The barrier sits between the semaphores at the bottom and the receiving ones. -/
def lv (g : GSem nD τ sig) (_ : Unit) : ℕ := match g.2 with | .reg _ => 1 | .dma q => rlev q

theorem L_of_ne (g : GSem nD τ sig) (h : g.1.2 ≠ .tc) : L g = ∅ := if_neg h
theorem L_tc (c : Dev nD) (sm : SemLoc sig) : L ((c : Thread nD τ), sm) = {()} := if_pos rfl

/-- What is owed is owed on the partner's receiving semaphores. -/
theorem owed_pos {c : Dev nD} {k : ℕ} {g : GSem nD τ sig} {u : Unit} (h : 0 < owed c k g u) :
    ∃ j, k ≤ j ∧ j < 32 ∧ g = ((peer c : Thread nD τ), SemLoc.dma (recvSem j)) := by
  unfold owed at h
  rw [Finset.sum_apply, Finsupp.finset_sum_apply] at h
  obtain ⟨j, hj, hne⟩ := Finset.exists_ne_zero_of_sum_ne_zero (Nat.pos_iff_ne_zero.mp h)
  rw [tallyAt_apply] at hne
  have := Finset.mem_Ico.mp hj
  refine ⟨j, this.1, this.2, ?_⟩
  by_contra hg
  exact hne (if_neg fun h' => hg h'.1)

omit [FloatOps F] in
/-- A wait at level `b` while owing only what sits above. -/
theorem mayWait (c : Dev nD) (sm : SemLoc sig) (k b : ℕ) (hb : lv ((c : Thread nD τ), sm) () ≤ b) (hk : ∀ j, k ≤ j → j < 32 → b < j + 2) :
    (levAts L lv : sProp 𝕄) ⊢ MayWait (c : Thread nD τ) sm () (owed c k) :=
  MayOwe.of_cut (L := L) (lev := lv) b (fun p hp => by rw [Finset.mem_singleton.mp hp, L_tc]; exact Finset.mem_singleton_self _)
    (fun g u hg => by obtain ⟨j, h1, h2, rfl⟩ := owed_pos hg; rw [L_tc]; exact Finset.mem_singleton_self _)
    (fun p hp => by rw [Finset.mem_singleton.mp hp]; exact hb)
    (fun g u hg => by
      obtain ⟨j, h1, h2, rfl⟩ := owed_pos hg
      show b < rlev (recvSem j)
      rw [rlev_recv, Nat.mod_eq_of_lt h2]
      exact hk j h1 h2)

/-- A device owes `O`, having waited on whatever it has. -/
def Ow (c : Dev nD) (O : CellTallies nD τ sig Unit) : sProp 𝕄 := iprop(∃ W, owes (c : Thread nD τ) O W)

section Waits
variable (c : Dev nD) {α : Type} {sp : Space} {s : Shape} {e : EltTy}
variable {Q : α → sProp (MT nD τ sig Unit (Elt F) ℕ UU ℕ)}

/-- Waiting on a semaphore at the bottom level. -/
theorem wp_wait {sp₁ sp₂ : Space} {s₁ : Shape} {e₁ : EltTy} {q q' : DmaSem sig} {src' : Memref sig .tc sp₁ s₁ e₁} {dst' : Memref sig .tc sp₂ s e} {n : ℕ}
    {h₁ : src'.view.WordExact} {h₂ : dst'.view.WordExact}
    {k : PUnit → Prog (TpuEff nD τ sig (Elt F) Λ₀ .tc) α} {D : sProp 𝕄} {i : ℕ}
    (hq : q' = q) (hn : dst'.view.dmaCredit = n) (hl : rlev q = 0) :
    iprop(levAts L lv ∗ Fly c q n D ∗ Ow c (owed c i))
      ⊢ iprop((iprop(D ∗ sem0 c q ∗ Ow c (owed c i)) -∗ Wp c (k ⟨⟩) Q)
          -∗ Wp c (.op (.waitDma2 q' src' dst' h₁ h₂) k) Q) := by
  unfold Ow
  iintro ⟨#Hlev, Hf, %W, HO⟩ Hk
  iapply (wp_finish c hq hn) $$ [Hf HO]
  · isplitl [Hf]; · iexact Hf
    isplitl [HO]; · iexact HO
    iapply (mayWait c (.dma q) i 0 (le_of_eq hl) (fun _ _ _ => by omega))
    iexact Hlev
  iintro ⟨HD, Hq, HO⟩
  iapply Hk
  isplitl [HD]; · iexact HD
  isplitl [Hq]; · iexact Hq
  iexists _; iexact HO

/-- Waiting for the chunk `i` of the partner while owing it only later chunks. -/
theorem wp_waitRecv {sp₁ sp₂ : Space} {s₁ : Shape} {e₁ : EltTy} {q' : DmaSem sig} {src' : Memref sig .tc sp₁ s₁ e₁} {dst' : Memref sig .tc sp₂ s e} {n : ℕ}
    {h₁ : src'.view.WordExact} {h₂ : dst'.view.WordExact}
    {k : PUnit → Prog (TpuEff nD τ sig (Elt F) Λ₀ .tc) α} {D : sProp 𝕄} {i l : ℕ}
    (hq : q' = recvSem i) (hn : dst'.view.dmaCredit = n) (hi : i < 32) (hl : i < l) :
    iprop(levAts L lv ∗ Fly c (recvSem i) n D ∗ Ow c (owed c l))
      ⊢ iprop((iprop(D ∗ sem0 c (recvSem i) ∗ Ow c (owed c l)) -∗ Wp c (k ⟨⟩) Q)
          -∗ Wp c (.op (.waitDma2 q' src' dst' h₁ h₂) k) Q) := by
  unfold Ow
  iintro ⟨#Hlev, Hf, %W, HO⟩ Hk
  iapply (wp_finish c hq hn) $$ [Hf HO]
  · isplitl [Hf]; · iexact Hf
    isplitl [HO]; · iexact HO
    iapply (mayWait c (.dma (recvSem i)) l (i + 2) (le_of_eq ((rlev_recv i).trans (by rw [Nat.mod_eq_of_lt hi]))) (fun _ _ _ => by omega))
    iexact Hlev
  iintro ⟨HD, Hq, HO⟩
  iapply Hk
  isplitl [HD]; · iexact HD
  isplitl [Hq]; · iexact Hq
  iexists _; iexact HO

end Waits

end Cert.Pair

end
-- ==== Proof.Pieces.lean ====
/-
The families of pieces and transfers a device works through, chunk by chunk, and how one chunk's member is taken out of
each and put back.
-/
module

public import proofs.«01_k».proof.Proof.State

@[expose] public section

set_option maxRecDepth 16384

noncomputable section

namespace Cert.Pair

open Cert.KernelIdeal Cert.KernelIdeal.Gen
open Idealize.ShloMosaic
open Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD)

/-- What a chunk of `Wo` credits on arrival. -/
abbrev nWo : ℕ := (woSlot 0).view.dmaCredit

/-! ## The fetching of `Wo` -/

/-- Chunk `j` of `Wo` on its way in. -/
def flyWo (j : ℕ) : sProp 𝕄 :=
  Fly c (woSem j) nWo iprop(own c (woSlot j) (wVal m c j) ∗ own c (woChunk j) (wVal m c j))

/-- The chunks of `Wo`: those below `lo` used up, those below `hi` under way. -/
def fetch (lo hi : ℕ) : sProp 𝕄 :=
  phases lo hi (fun j => own c (woChunk j) (wVal m c j)) (flyWo m c) (fun j => own c (woChunk j) (wVal m c j))

/-- A slot for a chunk of `Wo` and its semaphore, unused. -/
def woIdle (j : ℕ) : sProp 𝕄 := iprop(free c (woSlot j) ∗ sem0 c (woSem j))

omit [FloatOps F] in
theorem woIdle_next (j : ℕ) : (woIdle c j : sProp 𝕄) = woIdle c (j + 2) := by
  unfold woIdle
  rw [← woSlot_mod j, ← woSlot_mod (j + 2), ← woSem_mod j, ← woSem_mod (j + 2), Nat.add_mod_right]

/-- The slots for `Wo` that nothing is in before round `k`. -/
def woRest (k : ℕ) : sProp 𝕄 := iprop(woIdle c (k + 1) ∗ (if k < 32 then emp else woIdle c k))

/-- The state of the fetching before round `k`: its chunk is under way, the other slot is unused. -/
def woInv (k : ℕ) : sProp 𝕄 := iprop(fetch m c k (k + 1) ∗ woRest c k)

/-- The state of the fetching in round `k`, the next chunk's fetch begun. -/
def woMid (k : ℕ) : sProp 𝕄 := iprop(fetch m c k (k + 2) ∗ (if k + 1 < 32 then emp else woIdle c (k + 1)))

omit [FloatOps F] in
theorem woInv_begin {k : ℕ} (hk : k + 1 < 32) :
    woInv m c k ⊢ iprop((own c (woChunk (k + 1)) (wVal m c (k + 1)) ∗ free c (woSlot (k + 1)) ∗ sem0 c (woSem (k + 1)))
      ∗ (flyWo m c (k + 1) -∗ woMid m c k)) := by
  unfold woInv woMid woRest woIdle
  rw [if_pos hk]
  iintro ⟨Hf, ⟨Hs, Hq⟩, Hr⟩
  iclear Hr
  have e : fetch m c k (k + 1) ⊢ iprop(own c (woChunk (k + 1)) (wVal m c (k + 1)) ∗ (flyWo m c (k + 1) -∗ fetch m c k (k + 2))) :=
    phases_begin (Nat.le_succ k) hk
  ihave ⟨Hc, Hk⟩ := e $$ Hf
  isplitl [Hc Hs Hq]
  · isplitl [Hc]; · iexact Hc
    isplitl [Hs] <;> iassumption
  iintro H
  isplitl
  · iapply Hk; iexact H
  iempintro

omit [FloatOps F] in
theorem woInv_skip {k : ℕ} (hk : ¬ k + 1 < 32) : woInv m c k ⊢ iprop(woMid m c k) := by
  unfold woInv woMid woRest
  rw [if_neg hk, show fetch m c k (k + 1) = fetch m c k (k + 2) from phases_past (by omega)]
  iintro ⟨Hf, Hs, Hr⟩
  iclear Hr
  isplitl [Hf] <;> iassumption

omit [FloatOps F] in
theorem woMid_end {k : ℕ} (hk : k < 32) :
    woMid m c k ⊢ iprop(flyWo m c k ∗ ((own c (woChunk k) (wVal m c k) ∗ woIdle c k) -∗ woInv m c (k + 1))) := by
  unfold woInv woMid woRest
  rw [← woIdle_next c k]
  have e : fetch m c k (k + 2) ⊢ iprop(flyWo m c k ∗ (own c (woChunk k) (wVal m c k) -∗ fetch m c (k + 1) (k + 2))) :=
    phases_end (by omega) hk
  iintro ⟨Hf, Hs⟩
  ihave ⟨Hf, Hk⟩ := e $$ Hf
  isplitl [Hf]; · iexact Hf
  iintro ⟨Hc, Hi⟩
  isplitl [Hk Hc]
  · iapply Hk; iexact Hc
  isplitl [Hi] <;> iassumption

/-! ## The device's own products -/

/-- The ring of the device's own products before round `k`: the last five of them. -/
def ring (k : ℕ) : sProp 𝕄 :=
  bigSep (Finset.range 5) fun s => iprop(∃ v, ⌜∀ j, j < k → k ≤ j + 5 → j % 5 = s → v = ownVal m c j⌝ ∗ own c (ringSlot s) v)

theorem ring_put (k : ℕ) :
    ring m c k ⊢ iprop(free c (ringSlot k) ∗ (own c (ringSlot k) (ownVal m c k) -∗ ring m c (k + 1))) := by
  unfold ring
  have hk := Nat.mod_lt k (show 0 < 5 by decide)
  refine (bigSep_step_mono (Ψ := fun s => iprop(∃ v, ⌜∀ j, j < k + 1 → k + 1 ≤ j + 5 → j % 5 = s → v = ownVal m c j⌝ ∗ own c (ringSlot s) v))
    (k % 5) (Finset.mem_range.mpr hk) ?_).trans ?_
  · intro s hs hne
    iintro ⟨%v, %hv, H⟩
    iexists v
    isplitr
    · ipureintro
      exact fun j h1 h2 h3 => hv j (by by_contra h; exact hne (by rw [← h3, show j = k by omega])) (by omega) h3
    iexact H
  rw [ringSlot_mod]
  unfold free
  iintro ⟨⟨%v, %hv, H⟩, Hk⟩
  isplitl [H]
  · iexists v; iexact H
  iintro H
  iapply Hk
  iexists (ownVal m c k)
  isplitr
  · ipureintro
    exact fun j h1 h2 h3 => by rw [show j = k by omega]
  iexact H

theorem ring_get {k i : ℕ} (h1 : i < k) (h2 : k ≤ i + 5) :
    ring m c k ⊢ iprop(own c (ringSlot i) (ownVal m c i) ∗ (own c (ringSlot i) (ownVal m c i) -∗ ring m c k)) := by
  unfold ring
  have hi := Nat.mod_lt i (show 0 < 5 by decide)
  refine (bigSep_step (i % 5) (Finset.mem_range.mpr hi) (fun _ _ _ => rfl)).trans ?_
  rw [ringSlot_mod]
  iintro ⟨⟨%v, %hv, H⟩, Hk⟩
  rw [hv i h1 h2 rfl]
  isplitl [H]
  · iexact H
  iintro H
  iapply Hk
  iexists (ownVal m c i)
  isplitr
  · ipureintro
    exact fun j h3 h4 h5 => by rw [show j = i by omega]
  iexact H

/-! ## The sending -/

/-- Slot `j` for sending, its transfer under way. -/
def flySend (j : ℕ) : sProp 𝕄 := iprop(∃ v, Fly c (sendSem j) nSlab (own c (sendSlot j) v))
/-- Slot `j` for sending, unused. -/
def sendIdle (j : ℕ) : sProp 𝕄 := iprop(free c (sendSlot j) ∗ sem0 c (sendSem j))

/-- The slots for sending before round `k`. -/
def sending (k : ℕ) : sProp 𝕄 := bigSep (Finset.range 2) fun s => if s < k then flySend c s else sendIdle c s

omit [FloatOps F] in
theorem flySend_mod (j : ℕ) : (flySend c (j % 2) : sProp 𝕄) = flySend c j := by
  unfold flySend; rw [sendSlot_mod, sendSem_mod]
omit [FloatOps F] in
theorem sendIdle_mod (j : ℕ) : (sendIdle c (j % 2) : sProp 𝕄) = sendIdle c j := by
  unfold sendIdle; rw [sendSlot_mod, sendSem_mod]

omit [FloatOps F] in
theorem sending_next (k : ℕ) :
    (sending c k : sProp 𝕄) ⊢ iprop((if 2 ≤ k then flySend c k else sendIdle c k) ∗ (flySend c k -∗ sending c (k + 1))) := by
  unfold sending
  have hk := Nat.mod_lt k (show 0 < 2 by decide)
  refine (bigSep_step (Ψ := fun s => if s < k + 1 then flySend c s else sendIdle c s) (k % 2) (Finset.mem_range.mpr hk) ?_).trans ?_
  · intro s hs hne
    have := Finset.mem_range.mp hs
    by_cases h : s < k
    · rw [if_pos h, if_pos (by omega)]
    · rw [if_neg h, if_neg (show ¬ s < k + 1 by omega)]
  rw [if_pos (show k % 2 < k + 1 by omega), flySend_mod, sendIdle_mod]
  by_cases h : 2 ≤ k
  · rw [if_pos h, if_pos (by omega)]
  · rw [if_neg h, if_neg (by omega)]

/-- What the transfer to the partner's slot of chunk `j` needs. -/
def peerSlot (j : ℕ) : sProp 𝕄 :=
  iprop(Tick (peer c) (.dma (recvSem j)) nSlab (own (peer c) (recvSlot j) (sndVal m c j)) ∗ free (peer c) (recvSlot j))

/-- The partner's slots that this device has not sent to before round `k`. -/
def peerSlots (k : ℕ) : sProp 𝕄 := phases 0 k (fun _ => iprop(emp)) (fun _ => iprop(emp)) (peerSlot m c)

theorem peerSlots_next {k : ℕ} (hk : k < 32) : peerSlots m c k ⊢ iprop(peerSlot m c k ∗ peerSlots m c (k + 1)) := by
  have e : peerSlots m c k ⊢ iprop(peerSlot m c k ∗ (emp -∗ peerSlots m c (k + 1))) := phases_begin (Nat.zero_le k) hk
  refine e.trans ?_
  iintro ⟨H, Hk⟩
  isplitl [H]; · iexact H
  iapply Hk; iempintro

/-! ## The receiving -/

/-- The device's own slots for what its partner sends. -/
def recving (lo hi : ℕ) : sProp 𝕄 :=
  phases lo hi (fun j => iprop(own c (recvSlot j) (rcvVal m c j) ∗ sem0 c (recvSem j))) (fun j => sem0 c (recvSem j))
    (fun j => Fly c (recvSem j) nSlab (own c (recvSlot j) (rcvVal m c j)))

/-- Slot `j` for staging what was received, unused. -/
def addIdle (j : ℕ) : sProp 𝕄 := iprop(free c (addSlot j) ∗ sem0 c (addSem j))
def adding : sProp 𝕄 := bigSep (Finset.range 2) (addIdle c)

omit [FloatOps F] in
theorem adding_take (j : ℕ) : (adding c : sProp 𝕄) ⊢ iprop(addIdle c j ∗ (addIdle c j -∗ adding c)) := by
  have e : (addIdle c (j % 2) : sProp 𝕄) = addIdle c j := by unfold addIdle; rw [addSlot_mod, addSem_mod]
  rw [← e]
  exact bigSep_step (j % 2) (Finset.mem_range.mpr (Nat.mod_lt _ (by decide))) (fun _ _ _ => rfl)

/-! ## The writing out -/

/-- Chunk `j` of the result on its way out. -/
def flyRes (j : ℕ) : sProp 𝕄 :=
  Fly c (resSem j) nSlab iprop(own c (outCol j) (resVal m c j) ∗ own c (resSlot j) (resVal m c j))
/-- Slot `j` for writing out, unused. -/
def resIdle (j : ℕ) : sProp 𝕄 := iprop(free c (resSlot j) ∗ sem0 c (resSem j))

/-- The chunks of the result: those below `lo` are written, those below `hi` under way. -/
def outs (lo hi : ℕ) : sProp 𝕄 :=
  phases lo hi (fun j => own c (outCol j) (resVal m c j)) (flyRes m c) (fun j => free c (outCol j))

/-- The slots for writing out that are unused before chunk `n`. -/
def resRest (n : ℕ) : sProp 𝕄 := bigSep (Finset.range 2) fun s => if s < n then iprop(emp) else resIdle c s

/-- The state of the writing before chunk `n`. -/
def resInv (n : ℕ) : sProp 𝕄 := iprop(outs m c (n - 2) n ∗ resRest c n)

/-- The state of the writing at chunk `n`, with a slot for it. -/
def resMid (n : ℕ) : sProp 𝕄 := iprop(resIdle c n ∗ free c (outCol n) ∗ (flyRes m c n -∗ resInv m c (n + 1)))

omit [FloatOps F] in
theorem resIdle_mod (j : ℕ) : (resIdle c (j % 2) : sProp 𝕄) = resIdle c j := by
  unfold resIdle; rw [resSlot_mod, resSem_mod]
omit [FloatOps F] in
theorem resIdle_prev {n : ℕ} (h : 2 ≤ n) : (resIdle c (n - 2) : sProp 𝕄) = resIdle c n := by
  rw [← resIdle_mod c (n - 2), ← resIdle_mod c n, show (n - 2) % 2 = n % 2 by omega]

theorem resInv_skip {n : ℕ} (h : ¬ 2 ≤ n) : resInv m c n ⊢ iprop(resMid m c n) := by
  unfold resMid resInv
  have e₁ : outs m c (n - 2) n ⊢ iprop(free c (outCol n) ∗ (flyRes m c n -∗ outs m c (n - 2) (n + 1))) :=
    phases_begin (by omega) (by omega)
  have e₂ : (resRest c n : sProp 𝕄) ⊢ iprop(resIdle c n ∗ (emp -∗ resRest c (n + 1))) := by
    unfold resRest
    have hn := Nat.mod_lt n (show 0 < 2 by decide)
    refine (bigSep_step (Ψ := fun s => if s < n + 1 then iprop(emp) else resIdle c s) n (Finset.mem_range.mpr (by omega)) ?_).trans ?_
    · intro s hs hne
      by_cases h : s < n
      · rw [if_pos h, if_pos (by omega)]
      · rw [if_neg h, if_neg (show ¬ s < n + 1 by omega)]
    rw [if_neg (show ¬ n < n by omega), if_pos (show n < n + 1 by omega)]
  rw [show n + 1 - 2 = n - 2 by omega]
  iintro ⟨Ho, Hr⟩
  ihave ⟨Hf, Ho⟩ := e₁ $$ Ho
  ihave ⟨Hi, Hr⟩ := e₂ $$ Hr
  isplitl [Hi]; · iexact Hi
  isplitl [Hf]; · iexact Hf
  iintro H
  isplitl [Ho H]
  · iapply Ho; iexact H
  iapply Hr; iempintro

theorem resInv_end {n : ℕ} (h : 2 ≤ n) (hn : n < 32) :
    resInv m c n ⊢ iprop(flyRes m c (n - 2) ∗ ((own c (outCol (n - 2)) (resVal m c (n - 2)) ∗ resIdle c (n - 2)) -∗ resMid m c n)) := by
  unfold resMid resInv
  have e₁ : outs m c (n - 2) n ⊢ iprop(flyRes m c (n - 2) ∗ (own c (outCol (n - 2)) (resVal m c (n - 2)) -∗ outs m c (n - 2 + 1) n)) :=
    phases_end (by omega) (by omega)
  have e₂ : outs m c (n - 2 + 1) n ⊢ iprop(free c (outCol n) ∗ (flyRes m c n -∗ outs m c (n - 2 + 1) (n + 1))) :=
    phases_begin (by omega) (by omega)
  have e₃ : (resRest c n : sProp 𝕄) = resRest c (n + 1) := bigSep_congr fun s hs => by
    have := Finset.mem_range.mp hs
    rw [if_pos (by omega), if_pos (show s < n + 1 by omega)]
  rw [show n + 1 - 2 = n - 2 + 1 by omega, resIdle_prev c h, e₃]
  iintro ⟨Ho, Hr⟩
  ihave ⟨Hf, Ho⟩ := e₁ $$ Ho
  isplitl [Hf]; · iexact Hf
  iintro ⟨Hc, Hi⟩
  ihave ⟨Hf, Ho⟩ := e₂ $$ [Ho Hc]
  · iapply Ho; iexact Hc
  isplitl [Hi]; · iexact Hi
  isplitl [Hf]; · iexact Hf
  iintro H
  isplitl [Ho H]
  · iapply Ho; iexact H
  iexact Hr

/-- The state of receiving and writing before chunk `n`. -/
def tail (n : ℕ) : sProp 𝕄 := iprop(recving m c n n ∗ adding c ∗ resInv m c n)

/-- The state of receiving and writing at chunk `n`, what was received on its way to be added. -/
def tailMid (n : ℕ) : sProp 𝕄 :=
  iprop(recving m c n (n + 1)
    ∗ Fly c (addSem n) nSlab iprop(own c (addSlot n) (rcvVal m c n) ∗ own c (recvSlot n) (rcvVal m c n))
    ∗ (addIdle c n -∗ adding c) ∗ resInv m c n)

end Cert.Pair

end
-- ==== Proof.Steps.lean ====
/-
The steps of a round in terms of the families: fetching a chunk of `Wo`, receiving, adding and writing out.
-/
module

public import proofs.«01_k».proof.Proof.Pieces

@[expose] public section

set_option maxRecDepth 16384

noncomputable section

namespace Cert.Pair

open Cert.KernelIdeal Cert.KernelIdeal.Gen
open Idealize.ShloMosaic
open Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Ifs
variable (c : Dev nD) {α : Type}
variable {Q : α → sProp (MT nD τ sig Unit (Elt F) ℕ UU ℕ)}

/-- A branch that takes `P` to `Mid` before going on, and does nothing otherwise. -/
theorem wp_if {b : Prop} [Decidable b] {p : b → Prog (TpuEff nD τ sig (Elt F) Λ₀ .tc) α} {k : Prog (TpuEff nD τ sig (Elt F) Λ₀ .tc) α}
    (P Mid R : sProp 𝕄) (h₁ : ∀ h, iprop(P ∗ (Mid -∗ Wp c k Q)) ⊢ Wp c (p h) Q) (h₂ : ¬ b → (P ⊢ Mid)) (h₃ : iprop(Mid ∗ R) ⊢ Wp c k Q) :
    iprop(P ∗ R) ⊢ Wp c (dite b p fun _ => k) Q := by
  by_cases h : b
  · rw [dif_pos h]
    refine BIBase.Entails.trans ?_ (h₁ h)
    iintro ⟨HP, HR⟩
    isplitl [HP]; · iexact HP
    iintro HM
    iapply h₃
    isplitl [HM] <;> iassumption
  · rw [dif_neg h]
    have h₂ := h₂ h
    iintro ⟨HP, HR⟩
    iapply h₃
    isplitl [HP]
    · iapply h₂; iexact HP
    iexact HR

/-- The same, with what comes after still to be given. -/
theorem wp_branch {b : Prop} [Decidable b] {p : b → Prog (TpuEff nD τ sig (Elt F) Λ₀ .tc) α} {k : Prog (TpuEff nD τ sig (Elt F) Λ₀ .tc) α}
    (P Mid : sProp 𝕄) (h₁ : ∀ h, P ⊢ iprop((Mid -∗ Wp c k Q) -∗ Wp c (p h) Q)) (h₂ : ¬ b → (P ⊢ Mid)) :
    P ⊢ iprop((Mid -∗ Wp c k Q) -∗ Wp c (dite b p fun _ => k) Q) := by
  by_cases h : b
  · rw [dif_pos h]; exact h₁ h
  · rw [dif_neg h]
    have h₂ := h₂ h
    iintro HP Hk
    iapply Hk
    iapply h₂; iexact HP

/-- A program that ends. -/
theorem wp_done (a : α) : Q a ⊢ Wp c (.ret a) Q := by
  unfold Wp; rw [wp_ret]; exact fupd_intro

/-- Two programs in sequence. -/
theorem wp_seq {β : Type} (p : Prog (TpuEff nD τ sig (Elt F) Λ₀ .tc) β) (k : β → Prog (TpuEff nD τ sig (Elt F) Λ₀ .tc) α) :
    Wp c (p >>= k) Q = Wp c p (fun a => Wp c (k a) Q) := by
  unfold Wp; simp only [wp_bind]

/-- Loading a slab whose value does not matter. -/
theorem wp_loadAny {s : Shape} {e : EltTy} {cs : CoreSpace} {s' : Shape} {M : Memref sig .tc cs s e} {r : Rect s} {hr : ∀ a, r.stride a = 1} {hq : r.shape.Squeezes s'}
    {S : Memref sig .tc cs s' e} {hl : M.view.LoadsAt r} {k : (r.shape.Idx → Elt F e) → Prog (TpuEff nD τ sig (Elt F) Λ₀ .tc) α}
    (hS : (M.slice r hr).squeeze s' hq = S) (hc : s'.ShapeCasts r.shape) :
    (free c S : sProp 𝕄) ⊢ iprop((∀ w, free c S -∗ Wp c (k w) Q) -∗ Wp c (.op (.load M r hl) k) Q) := by
  unfold free
  iintro ⟨%v, H⟩ Hk
  iapply (wp_loadSlab c hS hc) $$ H
  iintro H
  iapply Hk
  iexists v; iexact H

end Ifs

variable (m : (ℓ : Loc nD τ sig) → Buf (Elt F) ℓ) (c : Dev nD) {α : Type}
variable {Q : α → sProp (MT nD τ sig Unit (Elt F) ℕ UU ℕ)}

/-! ## The middle states -/

/-- Chunk `k` of `Wo` is in its slot. -/
def woUse (k : ℕ) : sProp 𝕄 := iprop(own c (woSlot k) (wVal m c k) ∗ (own c (woSlot k) (wVal m c k) -∗ woInv m c (k + 1)))

/-- Chunk `n` of what the partner sends is here. -/
def tailGot (n : ℕ) : sProp 𝕄 :=
  iprop(recving m c n (n + 1) ∗ own c (recvSlot n) (rcvVal m c n) ∗ adding c ∗ resInv m c n)

/-- It is staged for adding; `R` is the state of the writing. -/
def tailSum (n : ℕ) (R : sProp 𝕄) : sProp 𝕄 :=
  iprop(recving m c (n + 1) (n + 1) ∗ own c (addSlot n) (rcvVal m c n) ∗ (own c (addSlot n) (rcvVal m c n) -∗ adding c) ∗ R)

/-- The sum is ready to be written out. -/
def resReady (n : ℕ) : sProp 𝕄 :=
  iprop(own c (resSlot n) (resVal m c n) ∗ sem0 c (resSem n) ∗ free c (outCol n) ∗ (flyRes m c n -∗ resInv m c (n + 1)))

/-- The sum is ready and its terms are no longer needed. -/
def tailReady (n : ℕ) : sProp 𝕄 := iprop(recving m c (n + 1) (n + 1) ∗ adding c ∗ resReady m c n)

/-! ## The steps -/

theorem step_fetch {n : ℕ} (hn : n + 1 < 32) {src' : Memref sig .tc .hbm S4096x256 .f32} {dst' : Memref sig .tc .vmem S4096x256 .f32} {q' : DmaSem sig}
    {h₁ : src'.view.WordExact} {h₂ : dst'.view.WordExact} {h₃ : (DmaTarget.here dst' : DmaTarget nD τ sig .tc .vmem S4096x256 .f32).Typed .hbm (.dma q')}
    {k : PUnit → Prog (TpuEff nD τ sig (Elt F) Λ₀ .tc) α}
    (hs : src' = woChunk (n + 1)) (hd : dst' = woSlot (n + 1)) (hq : q' = woSem (n + 1)) :
    woInv m c n ⊢ iprop((woMid m c n -∗ Wp c (k ⟨⟩) Q) -∗ Wp c (.op (.enqueueDma src' (.here dst') (.dma q') h₁ h₂ h₃) k) Q) := by
  iintro H Hk
  ihave ⟨H, Hm⟩ := (woInv_begin m c hn) $$ H
  iapply (wp_start c hs hd hq (by decide)) $$ H
  iintro H
  iapply Hk
  iapply Hm
  unfold flyWo
  iexact H

theorem step_fetched {n l : ℕ} (hn : n < 32) {sp₁ sp₂ : Space} {s₁ : Shape} {e₁ : EltTy} {s : Shape} {e : EltTy}
    {q' : DmaSem sig} {src' : Memref sig .tc sp₁ s₁ e₁} {dst' : Memref sig .tc sp₂ s e}
    {h₁ : src'.view.WordExact} {h₂ : dst'.view.WordExact} {k : PUnit → Prog (TpuEff nD τ sig (Elt F) Λ₀ .tc) α}
    (hq : q' = woSem n) (hc : dst'.view.dmaCredit = nWo) :
    iprop(levAts L lv ∗ woMid m c n ∗ Ow c (owed c l))
      ⊢ iprop((iprop(woUse m c n ∗ Ow c (owed c l)) -∗ Wp c (k ⟨⟩) Q) -∗ Wp c (.op (.waitDma2 q' src' dst' h₁ h₂) k) Q) := by
  iintro ⟨#Hlev, H, HO⟩ Hk
  ihave ⟨H, Hm⟩ := (woMid_end m c hn) $$ H
  unfold flyWo
  iapply (wp_wait c hq hc (rlev_wo n)) $$ [H HO]
  · isplitr; · iexact Hlev
    isplitl [H] <;> iassumption
  iintro ⟨⟨Hs, Hc⟩, Hq, HO⟩
  iapply Hk
  isplitr [HO]
  · unfold woUse
    isplitl [Hs]; · iexact Hs
    iintro Hs
    iapply Hm
    isplitl [Hc]; · iexact Hc
    unfold woIdle
    isplitl [Hs]
    · iapply (own_free c) $$ Hs
    iexact Hq
  iexact HO

theorem step_recv {n l : ℕ} (hn : n < 32) (hl : n < l) {sp₁ sp₂ : Space} {s₁ : Shape} {e₁ : EltTy} {s : Shape} {e : EltTy}
    {q' : DmaSem sig} {src' : Memref sig .tc sp₁ s₁ e₁} {dst' : Memref sig .tc sp₂ s e}
    {h₁ : src'.view.WordExact} {h₂ : dst'.view.WordExact} {k : PUnit → Prog (TpuEff nD τ sig (Elt F) Λ₀ .tc) α}
    (hq : q' = recvSem n) (hc : dst'.view.dmaCredit = nSlab) :
    iprop(levAts L lv ∗ tail m c n ∗ Ow c (owed c l))
      ⊢ iprop((iprop(tailGot m c n ∗ Ow c (owed c l)) -∗ Wp c (k ⟨⟩) Q) -∗ Wp c (.op (.waitDma2 q' src' dst' h₁ h₂) k) Q) := by
  have e : recving m c n n ⊢ iprop(Fly c (recvSem n) nSlab (own c (recvSlot n) (rcvVal m c n)) ∗ (sem0 c (recvSem n) -∗ recving m c n (n + 1))) :=
    phases_begin (le_refl n) hn
  unfold tail
  iintro ⟨#Hlev, ⟨Hr, Ha, Ho⟩, HO⟩ Hk
  ihave ⟨H, Hr⟩ := e $$ Hr
  iapply (wp_waitRecv c hq hc hn hl) $$ [H HO]
  · isplitr; · iexact Hlev
    isplitl [H] <;> iassumption
  iintro ⟨Hs, Hq, HO⟩
  iapply Hk
  isplitr [HO]
  · unfold tailGot
    isplitl [Hr Hq]
    · iapply Hr; iexact Hq
    isplitl [Hs]; · iexact Hs
    isplitl [Ha] <;> iassumption
  iexact HO

theorem step_stage {n : ℕ} {src' : Memref sig .tc .hbm S1024x256 .f32} {dst' : Memref sig .tc .vmem S1024x256 .f32} {q' : DmaSem sig}
    {h₁ : src'.view.WordExact} {h₂ : dst'.view.WordExact} {h₃ : (DmaTarget.here dst' : DmaTarget nD τ sig .tc .vmem S1024x256 .f32).Typed .hbm (.dma q')}
    {k : PUnit → Prog (TpuEff nD τ sig (Elt F) Λ₀ .tc) α}
    (hs : src' = recvSlot n) (hd : dst' = addSlot n) (hq : q' = addSem n) :
    tailGot m c n ⊢ iprop((tailMid m c n -∗ Wp c (k ⟨⟩) Q) -∗ Wp c (.op (.enqueueDma src' (.here dst') (.dma q') h₁ h₂ h₃) k) Q) := by
  unfold tailGot
  iintro ⟨Hr, Hs, Ha, Ho⟩ Hk
  ihave ⟨Hi, Ha⟩ := (adding_take c n) $$ Ha
  unfold addIdle
  icases Hi with ⟨Hd, Hq⟩
  iapply (wp_start c hs hd hq (by decide)) $$ [Hs Hd Hq]
  · isplitl [Hs]; · iexact Hs
    isplitl [Hd] <;> iassumption
  iintro H
  iapply Hk
  unfold tailMid addIdle
  isplitl [Hr]; · iexact Hr
  isplitl [H]; · iexact H
  isplitl [Ha] <;> iassumption

theorem step_staged {n l : ℕ} (hn : n < 32) {sp₁ sp₂ : Space} {s₁ : Shape} {e₁ : EltTy} {s : Shape} {e : EltTy}
    {q' : DmaSem sig} {src' : Memref sig .tc sp₁ s₁ e₁} {dst' : Memref sig .tc sp₂ s e}
    {h₁ : src'.view.WordExact} {h₂ : dst'.view.WordExact} {k : PUnit → Prog (TpuEff nD τ sig (Elt F) Λ₀ .tc) α}
    (hq : q' = addSem n) (hc : dst'.view.dmaCredit = nSlab) :
    iprop(levAts L lv ∗ tailMid m c n ∗ Ow c (owed c l))
      ⊢ iprop((iprop(tailSum m c n (resInv m c n) ∗ Ow c (owed c l)) -∗ Wp c (k ⟨⟩) Q) -∗ Wp c (.op (.waitDma2 q' src' dst' h₁ h₂) k) Q) := by
  have e : recving m c n (n + 1) ⊢ iprop(sem0 c (recvSem n)
      ∗ (iprop(own c (recvSlot n) (rcvVal m c n) ∗ sem0 c (recvSem n)) -∗ recving m c (n + 1) (n + 1))) :=
    phases_end (Nat.lt_succ_self n) hn
  unfold tailMid
  iintro ⟨#Hlev, ⟨Hr, Hf, Ha, Ho⟩, HO⟩ Hk
  ihave ⟨Hrq, Hr⟩ := e $$ Hr
  iapply (wp_wait c hq hc (rlev_add n)) $$ [Hf HO]
  · isplitr; · iexact Hlev
    isplitl [Hf] <;> iassumption
  iintro ⟨⟨Hd, Hs⟩, Hq, HO⟩
  iapply Hk
  isplitr [HO]
  · unfold tailSum
    isplitl [Hr Hrq Hs]
    · iapply Hr
      isplitl [Hs] <;> iassumption
    isplitl [Hd]; · iexact Hd
    isplitl [Ha Hq]
    · iintro Hd
      iapply Ha
      unfold addIdle
      isplitl [Hd]
      · iapply (own_free c) $$ Hd
      iexact Hq
    iexact Ho
  iexact HO

theorem step_written {n l : ℕ} (h : 2 ≤ n) (hn : n < 32) {sp₁ sp₂ : Space} {s₁ : Shape} {e₁ : EltTy} {s : Shape} {e : EltTy}
    {q' : DmaSem sig} {src' : Memref sig .tc sp₁ s₁ e₁} {dst' : Memref sig .tc sp₂ s e}
    {h₁ : src'.view.WordExact} {h₂ : dst'.view.WordExact} {k : PUnit → Prog (TpuEff nD τ sig (Elt F) Λ₀ .tc) α}
    (hq : q' = resSem n) (hc : dst'.view.dmaCredit = nSlab) :
    iprop(levAts L lv ∗ resInv m c n ∗ Ow c (owed c l))
      ⊢ iprop((iprop(resMid m c n ∗ Ow c (owed c l)) -∗ Wp c (k ⟨⟩) Q) -∗ Wp c (.op (.waitDma2 q' src' dst' h₁ h₂) k) Q) := by
  have hq' : q' = resSem (n - 2) := by rw [hq, ← resSem_mod, ← resSem_mod (n - 2), show (n - 2) % 2 = n % 2 by omega]
  iintro ⟨#Hlev, Ho, HO⟩ Hk
  ihave ⟨Hf, Ho⟩ := (resInv_end m c h hn) $$ Ho
  unfold flyRes
  iapply (wp_wait c hq' hc (rlev_res (n - 2))) $$ [Hf HO]
  · isplitr; · iexact Hlev
    isplitl [Hf] <;> iassumption
  iintro ⟨⟨Hd, Hs⟩, Hq, HO⟩
  iapply Hk
  isplitr [HO]
  · iapply Ho
    isplitl [Hd]; · iexact Hd
    unfold resIdle
    isplitl [Hs]
    · iapply (own_free c) $$ Hs
    iexact Hq
  iexact HO

theorem step_write {n : ℕ} {src' : Memref sig .tc .vmem S1024x256 .f32} {dst' : Memref sig .tc .hbm S1024x256 .f32} {q' : DmaSem sig}
    {h₁ : src'.view.WordExact} {h₂ : dst'.view.WordExact} {h₃ : (DmaTarget.here dst' : DmaTarget nD τ sig .tc .hbm S1024x256 .f32).Typed .vmem (.dma q')}
    {k : PUnit → Prog (TpuEff nD τ sig (Elt F) Λ₀ .tc) α}
    (hs : src' = resSlot n) (hd : dst' = outCol n) (hq : q' = resSem n) :
    tailReady m c n ⊢ iprop((tail m c (n + 1) -∗ Wp c (k ⟨⟩) Q) -∗ Wp c (.op (.enqueueDma src' (.here dst') (.dma q') h₁ h₂ h₃) k) Q) := by
  unfold tailReady resReady
  iintro ⟨Hr, Ha, Hs, Hq, Hd, Ho⟩ Hk
  unfold flyRes
  iapply (wp_start c hs hd hq (by decide)) $$ [Hs Hd Hq]
  · isplitl [Hs]; · iexact Hs
    isplitl [Hd] <;> iassumption
  iintro H
  iapply Hk
  unfold tail
  isplitl [Hr]; · iexact Hr
  isplitl [Ha]; · iexact Ha
  iapply Ho
  iexact H

/-- Loading the device's own product of a chunk. -/
theorem step_own {n i : ℕ} (h1 : n < i) (h2 : i ≤ n + 5)
    {M : Memref sig .tc .vmem S5x1024x256 .f32} {r : Rect S5x1024x256} {hr} {hq : r.shape.Squeezes S1024x256} {hl : M.view.LoadsAt r}
    {k : (r.shape.Idx → Elt F .f32) → Prog (TpuEff nD τ sig (Elt F) Λ₀ .tc) α}
    (hS : (M.slice r hr).squeeze S1024x256 hq = ringSlot n) (hc : S1024x256.ShapeCasts r.shape) :
    ring m c i ⊢ iprop((ring m c i -∗ Wp c (k (shapeCast r.shape (ownVal m c n) hc)) Q) -∗ Wp c (.op (.load M r hl) k) Q) := by
  iintro Hg Hk
  ihave ⟨Hx, Hg⟩ := (ring_get m c h1 h2) $$ Hg
  iapply (wp_loadSlab c hS hc) $$ Hx
  iintro Hx
  iapply Hk
  iapply Hg
  iexact Hx

/-- Loading the partner's product of a chunk and storing the sum. -/
theorem step_add {n : ℕ}
    {M₂ M₃ : Memref sig .tc .vmem S2x1024x256 .f32} {r₂ r₃ r₄ : Rect S2x1024x256}
    {hr₂ hr₃ hr₄} {hq₂ : r₂.shape.Squeezes S1024x256} {hq₃ : r₃.shape.Squeezes S1024x256} {hq₄ : r₄.shape.Squeezes S1024x256}
    {hl₂ : M₂.view.LoadsAt r₂} {hl₃ : M₃.view.LoadsAt r₃}
    {w : (r₂.shape.Idx → Elt F .f32) → (r₄.shape.Idx → Elt F .f32)}
    {hx : (M₃.access r₄).Stores Finset.univ} {hm : Finset.univ = Finset.univ ∨ ∀ a, r₄.stride a = 1}
    {k : PUnit → Prog (TpuEff nD τ sig (Elt F) Λ₀ .tc) α}
    (hS₂ : (M₂.slice r₂ hr₂).squeeze S1024x256 hq₂ = addSlot n)
    (hS₃ : (M₃.slice r₃ hr₃).squeeze S1024x256 hq₃ = resSlot n) (hS₄ : (M₃.slice r₄ hr₄).squeeze S1024x256 hq₄ = resSlot n)
    (hc₂ : S1024x256.ShapeCasts r₂.shape) (hc₃ : S1024x256.ShapeCasts r₃.shape) (hc₄ : r₄.shape.ShapeCasts S1024x256)
    (hw : shapeCast S1024x256 (w (shapeCast r₂.shape (rcvVal m c n) hc₂)) hc₄ = resVal m c n) :
    tailSum m c n (resMid m c n)
      ⊢ iprop((tailReady m c n -∗ Wp c (k ⟨⟩) Q)
        -∗ Wp c (.op (.load M₂ r₂ hl₂) fun y => .op (.load M₃ r₃ hl₃) fun _ => .op (.store M₃ r₄ (w y) Finset.univ hx hm) k) Q) := by
  unfold tailSum resMid resIdle
  iintro ⟨Hr, Hd, Ha, ⟨Hs, Hq⟩, Ho, Hn⟩ Hk
  iapply (wp_loadSlab c hS₂ hc₂) $$ Hd
  iintro Hd
  iapply (wp_loadAny c hS₃ hc₃) $$ Hs
  iintro %y Hs
  iapply (wp_storeSlab c hS₄ hc₄) $$ Hs
  iintro Hs
  rw [hw]
  iapply Hk
  unfold tailReady resReady
  isplitl [Hr]; · iexact Hr
  isplitl [Ha Hd]
  · iapply Ha; iexact Hd
  isplitl [Hs]; · iexact Hs
  isplitl [Hq]; · iexact Hq
  isplitl [Ho] <;> iassumption

end Cert.Pair

end
-- ==== Proof.Round.lean ====
/-
One round of the main loop: the next chunk of `Wo` is fetched, this chunk's two products are formed, one is kept and one
sent, and the chunk four rounds back is completed.
-/
module

public import proofs.«01_k».proof.Proof.Steps

@[expose] public section

set_option maxRecDepth 16384

noncomputable section

namespace Cert.Pair

open Cert.KernelIdeal Cert.KernelIdeal.Gen
open Idealize.ShloMosaic
open Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD)

theorem trip_lt (t : Fin k0_t1_loop.trips) : t.val < 32 := t.isLt

/-- The receiving side in round `k`, after its first part. -/
def tailIn (k : ℕ) : sProp 𝕄 := if 4 ≤ k then tailMid m c (k - 4) else tail m c (k - 4)

section Part1
variable {Q : (Σ' (_ : BitVec 32), BitVec 32) → sProp (MT nD τ sig Unit (Elt F) ℕ UU ℕ)}

set_option maxHeartbeats 1600000 in
/-- Waiting for the chunk four rounds back. -/
theorem part1 (t : Fin k0_t1_loop.trips) (v5 v8 v9 x : BitVec 32) (h : k0_cond2 t = 1#1) :
    iprop((levAts L lv ∗ tail m c (t.val - 4) ∗ Ow c (owed c t.val)) ∗ (iprop(tailGot m c (t.val - 4) ∗ Ow c (owed c t.val)) -∗ ∀ r, Q r))
      ⊢ Wp c (k0_part1 (F := F) a0 h0 a1 h1 a2 h2 a3 h3 a4 h4 a5 h5 a6 h6 a7 h7 a8 h8 a9 h9 a10 a11 a12 a13 a14 a15 v5 v8 v9 t x h) Q := by
  simp only [k0_part1_eq_skeleton]; unfold k0_part1_skel
  simp only [semSignalWord, semWaitWord, Prog.lift, Prog.bind_op, Prog.bind_ret, Prog.pure_eq_ret]
  have ht := trip_lt t
  have h4 := (cond2_iff t).mp h
  iintro ⟨H, Hk⟩
  iapply (step_recv m c (n := t.val - 4) (by omega) (by omega) (recvSem_eq (t.val - 4) (off4 t h)) (by rfl)) $$ H
  iintro H
  iapply (wp_done c)
  iapply Hk $$ H

end Part1

section Part4
variable {Q : BitVec 32 → sProp (MT nD τ sig Unit (Elt F) ℕ UU ℕ)}

set_option maxHeartbeats 3200000 in
/-- The fetches: the next chunk's is begun, the chunk four rounds back is received and staged, this chunk's is awaited. -/
theorem part4 (t : Fin k0_t1_loop.trips) (v5 v8 v9 v177 x y : BitVec 32) :
    iprop((levAts L lv ∗ woInv m c t.val ∗ tail m c (t.val - 4) ∗ Ow c (owed c t.val))
        ∗ (iprop(woUse m c t.val ∗ tailIn m c t.val ∗ Ow c (owed c t.val)) -∗ ∀ r, Q r))
      ⊢ Wp c (k0_part4 (F := F) a0 h0 a1 h1 a2 h2 a3 h3 a4 h4 a5 h5 a6 h6 a7 h7 a8 h8 a9 h9 a10 a11 a12 a13 a14 a15 v5 v8 v9 v177 x y t) Q := by
  simp only [k0_part4_eq_skeleton]; unfold k0_part4_skel
  simp only [semSignalWord, semWaitWord, Prog.lift, Prog.bind_op, Prog.bind_ret, Prog.pure_eq_ret]
  have ht := trip_lt t
  have hA : iprop((levAts L lv ∗ woInv m c t.val ∗ tail m c (t.val - 4) ∗ Ow c (owed c t.val))
        ∗ (iprop(woUse m c t.val ∗ tailIn m c t.val ∗ Ow c (owed c t.val)) -∗ ∀ r, Q r))
      ⊢ iprop(woInv m c t.val ∗ levAts L lv ∗ (tail m c (t.val - 4) ∗ Ow c (owed c t.val))
        ∗ (iprop(woUse m c t.val ∗ tailIn m c t.val ∗ Ow c (owed c t.val)) -∗ ∀ r, Q r)) := by
    iintro ⟨⟨#Hlev, Hw, Ht⟩, Hk⟩
    isplitl [Hw]; · iexact Hw
    isplitr; · iexact Hlev
    isplitl [Ht] <;> iassumption
  refine hA.trans (wp_if c _ (woMid m c t.val) _ (fun h => ?_) (fun h => ?_) ?_)
  · iintro ⟨H, Hk⟩
    iapply (step_fetch m c ((cond1_iff t).mp h) (woChunk_eq (t.val + 1) (off3 t h)) (woSlot_eq (t.val + 1) (off2 t h))
      (woSem_eq (t.val + 1) (off1 t h))) $$ H
    iintro H
    iapply Hk
    iexact H
  · exact woInv_skip m c (fun h' => h ((cond1_iff t).mpr h'))
  have hB : iprop(woMid m c t.val ∗ levAts L lv ∗ (tail m c (t.val - 4) ∗ Ow c (owed c t.val))
        ∗ (iprop(woUse m c t.val ∗ tailIn m c t.val ∗ Ow c (owed c t.val)) -∗ ∀ r, Q r))
      ⊢ iprop((levAts L lv ∗ tail m c (t.val - 4) ∗ Ow c (owed c t.val)) ∗ levAts L lv ∗ woMid m c t.val
        ∗ (iprop(woUse m c t.val ∗ tailIn m c t.val ∗ Ow c (owed c t.val)) -∗ ∀ r, Q r)) := by
    iintro ⟨Hw, #Hlev, Ht, Hk⟩
    isplitl [Ht]
    · isplitr; · iexact Hlev
      iexact Ht
    isplitr; · iexact Hlev
    isplitl [Hw] <;> iassumption
  refine hB.trans (wp_if c _ iprop(tailIn m c t.val ∗ Ow c (owed c t.val)) _ (fun h => ?_) (fun h => ?_) ?_)
  · have h4 := (cond2_iff t).mp h
    unfold tailIn
    rw [if_pos h4]
    rw [wp_seq]
    iintro ⟨H, Hk⟩
    iapply (part1 m c t v5 v8 v9 _ h)
    isplitl [H]; · iexact H
    iintro ⟨H, HO⟩ %r
    iapply (step_stage m c (recvSlot_eq (t.val - 4) (off5 t h)) (addSlot_eq (t.val - 4) (off6 t h)) (addSem_eq (t.val - 4) (off7 t h))) $$ H
    iintro H
    iapply Hk
    isplitl [H] <;> iassumption
  · have h4 : ¬ 4 ≤ t.val := fun h' => h ((cond2_iff t).mpr h')
    unfold tailIn
    rw [if_neg h4]
    iintro ⟨_, H⟩
    iexact H
  iintro ⟨⟨Ht, HO⟩, #Hlev, Hw, Hk⟩
  iapply (step_fetched m c (trip_lt t) (woSem_eq t.val (off8 t)) (by rfl)) $$ [HO Hw]
  · isplitr; · iexact Hlev
    isplitl [Hw] <;> iassumption
  iintro ⟨Hw, HO⟩
  iapply (wp_done c)
  iapply Hk $$ [Hw Ht HO]
  isplitl [Hw]; · iexact Hw
  isplitl [Ht] <;> iassumption

end Part4

section Part5
variable {Q : (Σ' (_ : S1024x4096.Idx → Elt F .f32) (_ : BitVec 32) (_ : BitVec 1), BitVec 32) → sProp (MT nD τ sig Unit (Elt F) ℕ UU ℕ)}

set_option maxHeartbeats 3200000 in
/-- The product that is kept, and the slot for the one that is sent. -/
theorem part5 (t : Fin k0_t1_loop.trips) (x y : BitVec 32) :
    iprop((levAts L lv ∗ own c a4 (xVal m c) ∗ woUse m c t.val ∗ ring m c t.val ∗ sending c t.val ∗ Ow c (owed c t.val))
        ∗ (iprop(own c a4 (xVal m c) ∗ woUse m c t.val ∗ ring m c (t.val + 1) ∗ sendIdle c t.val ∗ (flySend c t.val -∗ sending c (t.val + 1)) ∗ Ow c (owed c t.val))
            -∗ ∀ z p q r, ⌜z = xSnd m c⌝ -∗ Q ⟨z, p, q, r⟩))
      ⊢ Wp c (k0_part5 (F := F) a0 h0 a1 h1 a2 h2 a3 h3 a4 h4 a5 h5 a6 h6 a7 h7 a8 h8 a9 h9 a10 a11 a12 a13 a14 a15 c x t y) Q := by
  simp only [k0_part5_eq_skeleton]; unfold k0_part5_skel
  simp only [semSignalWord, semWaitWord, Prog.lift, Prog.bind_op, Prog.bind_ret, Prog.pure_eq_ret]
  have ht := trip_lt t
  unfold woUse
  iintro ⟨⟨#Hlev, Hx, ⟨Hw, Hw'⟩, Hr, Hs, HO⟩, Hk⟩
  iapply (wp_loadRect c) $$ Hx
  iintro Hx
  iapply (wp_loadSlab c (woSlot_eq (h' := fun _ => rfl) t.val (off12 t)) shapeCasts_S1x4096x256_S4096x256.symm) $$ Hw
  iintro Hw
  ihave ⟨Hf, Hr⟩ := (ring_put m c t.val) $$ Hr
  iapply (wp_loadAny c (ringSlot_eq (h' := fun _ => rfl) t.val (off13 t)) shapeCasts_S1x1024x256_S1024x256.symm) $$ Hf
  iintro %z Hf
  iapply (wp_storeSlab c (ringSlot_eq (h' := fun _ => rfl) t.val (off13 t)) shapeCasts_S1x1024x256_S1024x256) $$ Hf
  iintro Hf
  ihave Hr := Hr $$ [Hf]
  · iexact Hf
  ihave ⟨Hs, Hs'⟩ := (sending_next c t.val) $$ Hs
  iapply (wp_branch c iprop(levAts L lv ∗ (if 2 ≤ t.val then flySend c t.val else sendIdle c t.val) ∗ Ow c (owed c t.val))
    iprop(sendIdle c t.val ∗ Ow c (owed c t.val)) (fun h => ?_) (fun h => ?_)) $$ [Hs HO]
  · rw [if_pos ((cond3_iff t).mp h)]
    unfold flySend
    iintro ⟨#Hlev, ⟨%v, Hf⟩, HO⟩ Hk
    iapply (wp_wait c (sendSem_eq t.val (off14 t h)) (by rfl) (rlev_send t.val)) $$ [Hf HO]
    · isplitr; · iexact Hlev
      isplitl [Hf] <;> iassumption
    iintro ⟨Hs, Hq, HO⟩
    iapply Hk
    isplitr [HO]
    · unfold sendIdle
      isplitl [Hs]
      · iapply (own_free c) $$ Hs
      iexact Hq
    iexact HO
  · rw [if_neg (fun h' => h ((cond3_iff t).mpr h'))]
    iintro ⟨_, H⟩
    iexact H
  · isplitr; · iexact Hlev
    isplitl [Hs] <;> iassumption
  iintro ⟨Hs, HO⟩
  iapply (wp_loadRect c) $$ Hx
  iintro Hx
  iapply (wp_done c)
  iapply Hk $$ [Hx Hw Hw' Hr Hs Hs' HO]
  swap; · ipureintro; rfl
  isplitl [Hx]; · iexact Hx
  isplitl [Hw Hw']
  · isplitl [Hw] <;> iassumption
  isplitl [Hr]; · iexact Hr
  isplitl [Hs]; · iexact Hs
  isplitl [Hs'] <;> iassumption

end Part5

end Cert.Pair

end
-- ==== Proof.Round2.lean ====
/-
The rest of a round of the main loop: the product for the partner is sent, and the chunk four rounds back is added up and
written out.
-/
module

public import proofs.«01_k».proof.Proof.Round

@[expose] public section

set_option maxRecDepth 16384

noncomputable section

namespace Cert.Pair

open Cert.KernelIdeal Cert.KernelIdeal.Gen
open Idealize.ShloMosaic
open Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD)

section Part6
variable {Q : (Σ' (_ : BitVec 32), BitVec 32) → sProp (MT nD τ sig Unit (Elt F) ℕ UU ℕ)}

set_option maxHeartbeats 3200000 in
/-- The product for the partner, put in its slot. -/
theorem part6 (t : Fin k0_t1_loop.trips) (x y y' : BitVec 32) (z : BitVec 1) (X : S1024x4096.Idx → Elt F .f32) (hX : X = xSnd m c) :
    iprop((woUse m c t.val ∗ sendIdle c t.val)
        ∗ (iprop(woUse m c t.val ∗ own c (sendSlot t.val) (sndVal m c t.val) ∗ sem0 c (sendSem t.val)) -∗ ∀ r, Q r))
      ⊢ Wp c (k0_part6 (F := F) a0 h0 a1 h1 a2 h2 a3 h3 a4 h4 a5 h5 a6 h6 a7 h7 a8 h8 a9 h9 a10 a11 a12 a13 a14 a15 t x X y z y') Q := by
  subst hX
  simp only [k0_part6_eq_skeleton]; unfold k0_part6_skel
  simp only [semSignalWord, semWaitWord, Prog.lift, Prog.bind_op, Prog.bind_ret, Prog.pure_eq_ret]
  unfold woUse sendIdle
  iintro ⟨⟨⟨Hw, Hw'⟩, Hs, Hq⟩, Hk⟩
  iapply (wp_loadSlab c (woSlot_eq (h' := fun _ => rfl) t.val (off12 t)) shapeCasts_S1x4096x256_S4096x256.symm) $$ Hw
  iintro Hw
  iapply (wp_loadAny c (sendSlot_eq (h' := fun _ => rfl) t.val (off18 t)) shapeCasts_S1x1024x256_S1024x256.symm) $$ Hs
  iintro %z Hs
  iapply (wp_storeSlab c (sendSlot_eq (h' := fun _ => rfl) t.val (off18 t)) shapeCasts_S1x1024x256_S1024x256) $$ Hs
  iintro Hs
  iapply (wp_done c)
  iapply Hk $$ [Hw Hw' Hs Hq]
  isplitl [Hw Hw']
  · isplitl [Hw] <;> iassumption
  unfold sndVal
  isplitl [Hs]; · iexact Hs
  iexact Hq

end Part6

section Part2
variable {Q : (Σ' (_ : BitVec 32) (_ : BitVec 32) (_ : BitVec 32) (_ : BitVec 1), BitVec 32) → sProp (MT nD τ sig Unit (Elt F) ℕ UU ℕ)}

set_option maxHeartbeats 3200000 in
/-- The partner's product is staged, and a slot for the sum is free. -/
theorem part2 (t : Fin k0_t1_loop.trips) (x : BitVec 32) (h : k0_cond4 t = 1#1) (l : ℕ) :
    iprop((levAts L lv ∗ tailMid m c (t.val - 4) ∗ Ow c (owed c l))
        ∗ (iprop(tailSum m c (t.val - 4) (resMid m c (t.val - 4)) ∗ Ow c (owed c l)) -∗ ∀ r, Q r))
      ⊢ Wp c (k0_part2 (F := F) a0 h0 a1 h1 a2 h2 a3 h3 a4 h4 a5 h5 a6 h6 a7 h7 a8 h8 a9 h9 a10 a11 a12 a13 a14 a15 t x h) Q := by
  simp only [k0_part2_eq_skeleton]; unfold k0_part2_skel
  simp only [semSignalWord, semWaitWord, Prog.lift, Prog.bind_op, Prog.bind_ret, Prog.pure_eq_ret]
  have ht := trip_lt t
  have h4 := (cond4_iff t).mp h
  iintro ⟨⟨#Hlev, Ht, HO⟩, Hk⟩
  iapply (step_staged m c (n := t.val - 4) (by omega) (addSem_eq (t.val - 4) (off22 t h)) (by rfl)) $$ [Ht HO]
  · isplitr; · iexact Hlev
    isplitl [Ht] <;> iassumption
  unfold tailSum
  iintro ⟨⟨Hr, Hd, Ha, Ho⟩, HO⟩
  iapply (wp_branch c iprop(levAts L lv ∗ resInv m c (t.val - 4) ∗ Ow c (owed c l))
    iprop(resMid m c (t.val - 4) ∗ Ow c (owed c l)) (fun h' => ?_) (fun h' => ?_)) $$ [Ho HO]
  · have h6 := (cond5_iff t h).mp h'
    iintro H Hk
    iapply (step_written m c (by omega) (by omega) (resSem_eq (t.val - 4) (off25 t h h')) (by rfl)) $$ H
    iexact Hk
  · have h6 : ¬ 6 ≤ t.val := fun h6 => h' ((cond5_iff t h).mpr h6)
    have e := resInv_skip m c (n := t.val - 4) (by omega)
    iintro ⟨_, Ho, HO⟩
    isplitl [Ho]
    · iapply e; iexact Ho
    iexact HO
  · isplitr; · iexact Hlev
    isplitl [Ho] <;> iassumption
  iintro ⟨Ho, HO⟩
  iapply (wp_done c)
  iapply Hk $$ [Hr Hd Ha Ho HO]
  isplitr [HO]
  · isplitl [Hr]; · iexact Hr
    isplitl [Hd]; · iexact Hd
    isplitl [Ha] <;> iassumption
  iexact HO

end Part2

section Part3
variable {Q : (Σ' (_ : BitVec 32), BitVec 1) → sProp (MT nD τ sig Unit (Elt F) ℕ UU ℕ)}

set_option maxHeartbeats 3200000 in
/-- The two products of the chunk four rounds back are added. -/
theorem part3 (t : Fin k0_t1_loop.trips) (h : k0_cond4 t = 1#1) (x y z : BitVec 32) (u : BitVec 1) (v : BitVec 32) :
    iprop((ring m c (t.val + 1) ∗ tailSum m c (t.val - 4) (resMid m c (t.val - 4)))
        ∗ (iprop(ring m c (t.val + 1) ∗ tailReady m c (t.val - 4)) -∗ ∀ r, Q r))
      ⊢ Wp c (k0_part3 (F := F) a0 h0 a1 h1 a2 h2 a3 h3 a4 h4 a5 h5 a6 h6 a7 h7 a8 h8 a9 h9 a10 a11 a12 a13 a14 a15 t h x y z u v) Q := by
  simp only [k0_part3_eq_skeleton]; unfold k0_part3_skel
  simp only [semSignalWord, semWaitWord, Prog.lift, Prog.bind_op, Prog.bind_ret, Prog.pure_eq_ret]
  have ht := trip_lt t
  have h4 := (cond4_iff t).mp h
  iintro ⟨⟨Hg, Ht⟩, Hk⟩
  iapply (step_own m c (n := t.val - 4) (i := t.val + 1) (by omega) (by omega) (ringSlot_eq (h' := fun _ => rfl) (t.val - 4) (off28 t h))
    shapeCasts_S1x1024x256_S1024x256.symm) $$ Hg
  iintro Hg
  iapply (step_add m c (n := t.val - 4) (addSlot_eq (h' := fun _ => rfl) (t.val - 4) (off29 t h)) (resSlot_eq (h' := fun _ => rfl) (t.val - 4) (off29 t h))
    (resSlot_eq (h' := fun _ => rfl) (t.val - 4) (off29 t h)) shapeCasts_S1x1024x256_S1024x256.symm shapeCasts_S1x1024x256_S1024x256.symm
    shapeCasts_S1x1024x256_S1024x256 (by rfl)) $$ Ht
  iintro Ht
  iapply (wp_done c)
  iapply Hk $$ [Hg Ht]
  isplitl [Hg] <;> iassumption

end Part3

/-- The state before round `k` of the main loop. -/
def roundInv (k : ℕ) : sProp 𝕄 :=
  iprop(own c a4 (xVal m c) ∗ woInv m c k ∗ ring m c k ∗ sending c k ∗ peerSlots m c k ∗ tail m c (k - 4) ∗ Ow c (owed c k))

section Body
variable {Q : Unit → sProp (MT nD τ sig Unit (Elt F) ℕ UU ℕ)}

set_option maxHeartbeats 6400000 in
/-- One round of the main loop. -/
theorem round (t : Fin k0_t1_loop.trips) (v5 v8 v9 v177 v179 : BitVec 32) :
    iprop((levAts L lv ∗ roundInv m c t.val) ∗ (roundInv m c (t.val + 1) -∗ Q ()))
      ⊢ Wp c (k0_t1_body (F := F) a0 h0 a1 h1 a2 h2 a3 h3 a4 h4 a5 h5 a6 h6 a7 h7 a8 h8 a9 h9 a10 a11 a12 a13 a14 a15 c v5 v8 v9 v177 v179 t ()) Q := by
  unfold k0_t1_body
  simp only [semSignalWord, semWaitWord, Prog.lift, Prog.bind_op, Prog.bind_ret, Prog.pure_eq_ret]
  have ht := trip_lt t
  unfold roundInv
  iintro ⟨⟨#Hlev, Hx, Hw, Hg, Hs, Hp, Ht, HO⟩, Hk⟩
  rw [wp_seq]
  iapply (part4 m c t)
  isplitl [Hw Ht HO]
  · isplitr; · iexact Hlev
    isplitl [Hw]; · iexact Hw
    isplitl [Ht] <;> iassumption
  iintro ⟨Hw, Ht, HO⟩ %x
  rw [wp_seq]
  iapply (part5 m c t)
  isplitl [Hx Hw Hg Hs HO]
  · isplitr; · iexact Hlev
    isplitl [Hx]; · iexact Hx
    isplitl [Hw]; · iexact Hw
    isplitl [Hg]; · iexact Hg
    isplitl [Hs] <;> iassumption
  iintro ⟨Hx, Hw, Hg, Hs, Hs', HO⟩ %X %p %q %r %hX
  rw [wp_seq]
  iapply (part6 m c t _ _ _ _ X hX)
  isplitl [Hw Hs]
  · isplitl [Hw] <;> iassumption
  iintro ⟨Hw, Hs, Hq⟩ %y
  ihave ⟨Hp, Hp'⟩ := (peerSlots_next m c ht) $$ Hp
  unfold peerSlot Ow
  icases Hp with ⟨Htick, Hp⟩
  icases HO with ⟨%W, HO⟩
  iapply (wp_send c (owed c (t.val + 1)) (dev2_eq c) (sendSlot_eq t.val (off21 t)) (recvSlot_eq t.val (off20 t))
    (sendSem_eq t.val (off8 t)) (recvSem_eq t.val (off19 t)) (by decide) (owed_step c t.val ht)) $$ [Hs Hp Htick Hq HO]
  · isplitl [Hs]; · iexact Hs
    isplitl [Hp]; · iexact Hp
    isplitl [Htick]; · iexact Htick
    isplitl [Hq] <;> iassumption
  iintro ⟨Hf, HO⟩
  unfold woUse
  icases Hw with ⟨Hw, Hw'⟩
  ihave Hw := Hw' $$ Hw
  ihave Hs := Hs' $$ [Hf]
  · unfold flySend
    iexists _; iexact Hf
  iapply (wp_branch c iprop(levAts L lv ∗ ring m c (t.val + 1) ∗ tailIn m c t.val ∗ Ow c (owed c (t.val + 1)))
    iprop(ring m c (t.val + 1) ∗ tail m c (t.val + 1 - 4) ∗ Ow c (owed c (t.val + 1))) (fun h => ?_) (fun h => ?_)) $$ [Hg Ht HO]
  · have h4 := (cond4_iff t).mp h
    unfold tailIn
    rw [if_pos h4, show t.val + 1 - 4 = t.val - 4 + 1 by omega, wp_seq]
    iintro ⟨#Hlev, Hg, Ht, HO⟩ Hk
    iapply (part2 m c t _ h (t.val + 1))
    isplitl [Ht HO]
    · isplitr; · iexact Hlev
      isplitl [Ht] <;> iassumption
    iintro ⟨Ht, HO⟩ %x
    rw [wp_seq]
    iapply (part3 m c t h)
    isplitl [Hg Ht]
    · isplitl [Hg] <;> iassumption
    iintro ⟨Hg, Ht⟩ %y
    iapply (step_write m c (resSlot_eq (t.val - 4) (off23 t h)) (outCol_eq (t.val - 4) (off30 t h)) (resSem_eq (t.val - 4) (off22 t h))) $$ Ht
    iintro Ht
    iapply Hk
    isplitl [Hg]; · iexact Hg
    isplitl [Ht] <;> iassumption
  · have h4 : ¬ 4 ≤ t.val := fun h' => h ((cond4_iff t).mpr h')
    unfold tailIn
    rw [if_neg h4, show t.val + 1 - 4 = t.val - 4 by omega]
    iintro ⟨_, H⟩
    iexact H
  · isplitr; · iexact Hlev
    isplitl [Hg]; · iexact Hg
    isplitl [Ht]; · iexact Ht
    unfold Ow
    iexists W; iexact HO
  iintro ⟨Hg, Ht, HO⟩
  iapply (wp_done c)
  iapply Hk
  isplitl [Hx]; · iexact Hx
  isplitl [Hw]; · iexact Hw
  isplitl [Hg]; · iexact Hg
  isplitl [Hs]; · iexact Hs
  isplitl [Hp']; · iexact Hp'
  isplitl [Ht]; · iexact Ht
  unfold Ow
  iexact HO

end Body

end Cert.Pair

end
-- ==== Proof.Late.lean ====
/-
The rounds after the main loop, which complete the last four chunks.
-/
module

public import proofs.«01_k».proof.Proof.Round2

@[expose] public section

set_option maxRecDepth 16384

noncomputable section

namespace Cert.Pair

open Cert.KernelIdeal Cert.KernelIdeal.Gen
open Idealize.ShloMosaic
open Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD)

theorem trip_lt₂ (t : Fin k0_t2_loop.trips) : t.val < 4 := t.isLt

section Part7
variable {Q : (Σ' (_ : BitVec 32) (_ : BitVec 32), BitVec 32) → sProp (MT nD τ sig Unit (Elt F) ℕ UU ℕ)}

set_option maxHeartbeats 3200000 in
/-- The chunk is received. -/
theorem part7 (t : Fin k0_t2_loop.trips) (v5 v8 v9 x y : BitVec 32) :
    iprop((levAts L lv ∗ tail m c (t.val + 28) ∗ Ow c (owed c 32)) ∗ (iprop(tailGot m c (t.val + 28) ∗ Ow c (owed c 32)) -∗ ∀ r, Q r))
      ⊢ Wp c (k0_part7 (F := F) a0 h0 a1 h1 a2 h2 a3 h3 a4 h4 a5 h5 a6 h6 a7 h7 a8 h8 a9 h9 a10 a11 a12 a13 a14 a15 v5 v8 v9 x y t) Q := by
  simp only [k0_part7_eq_skeleton]; unfold k0_part7_skel
  simp only [semSignalWord, semWaitWord, Prog.lift, Prog.bind_op, Prog.bind_ret, Prog.pure_eq_ret]
  have ht := trip_lt₂ t
  iintro ⟨H, Hk⟩
  iapply (step_recv m c (n := t.val + 28) (by omega) (by omega) (recvSem_eq (t.val + 28) (off31 t)) (by rfl)) $$ H
  iintro H
  iapply (wp_done c)
  iapply Hk $$ H

/-- It is brought to its slot. -/
theorem part8 (t : Fin k0_t2_loop.trips) (x y z : BitVec 32) :
    iprop(tailGot m c (t.val + 28) ∗ (tailMid m c (t.val + 28) -∗ ∀ r, Q r))
      ⊢ Wp c (k0_part8 (F := F) a0 h0 a1 h1 a2 h2 a3 h3 a4 h4 a5 h5 a6 h6 a7 h7 a8 h8 a9 h9 a10 a11 a12 a13 a14 a15 t x y z) Q := by
  simp only [k0_part8_eq_skeleton]; unfold k0_part8_skel
  simp only [semSignalWord, semWaitWord, Prog.lift, Prog.bind_op, Prog.bind_ret, Prog.pure_eq_ret]
  iintro ⟨H, Hk⟩
  iapply (step_stage m c (recvSlot_eq (t.val + 28) (off32 t)) (addSlot_eq (t.val + 28) (off33 t)) (addSem_eq (t.val + 28) (off34 t))) $$ H
  iintro H
  iapply (wp_done c)
  iapply Hk $$ H

end Part7

section Part9
variable {Q : (Σ' (_ : S1024x256.Idx → Elt F .f32) (_ : BitVec 32) (_ : BitVec 32) (_ : BitVec 1), BitVec 1) → sProp (MT nD τ sig Unit (Elt F) ℕ UU ℕ)}

set_option maxHeartbeats 3200000 in
/-- It is there, a slot for the sum is free, and the device's own product is loaded. -/
theorem part9 (t : Fin k0_t2_loop.trips) (x y z u : BitVec 32) :
    iprop((levAts L lv ∗ ring m c 32 ∗ tailMid m c (t.val + 28) ∗ Ow c (owed c 32))
        ∗ (iprop(ring m c 32 ∗ tailSum m c (t.val + 28) (resMid m c (t.val + 28)) ∗ Ow c (owed c 32))
            -∗ ∀ v p q r s, ⌜v = k0_pay4 (shapeCast S1x1024x256 (ownVal m c (t.val + 28)) shapeCasts_S1x1024x256_S1024x256.symm)⌝ -∗ Q ⟨v, p, q, r, s⟩))
      ⊢ Wp c (k0_part9 (F := F) a0 h0 a1 h1 a2 h2 a3 h3 a4 h4 a5 h5 a6 h6 a7 h7 a8 h8 a9 h9 a10 a11 a12 a13 a14 a15 t x y z u) Q := by
  simp only [k0_part9_eq_skeleton]; unfold k0_part9_skel
  simp only [semSignalWord, semWaitWord, Prog.lift, Prog.bind_op, Prog.bind_ret, Prog.pure_eq_ret]
  have ht := trip_lt₂ t
  iintro ⟨⟨#Hlev, Hg, Ht, HO⟩, Hk⟩
  iapply (step_staged m c (n := t.val + 28) (by omega) (addSem_eq (t.val + 28) (off34 t)) (by rfl)) $$ [Ht HO]
  · isplitr; · iexact Hlev
    isplitl [Ht] <;> iassumption
  unfold tailSum
  iintro ⟨⟨Hr, Hd, Ha, Ho⟩, HO⟩
  rw [dif_pos (cond6_iff t)]
  iapply (step_written m c (n := t.val + 28) (by omega) (by omega) (resSem_eq (t.val + 28) (off35 t)) (by rfl)) $$ [Ho HO]
  · isplitr; · iexact Hlev
    isplitl [Ho] <;> iassumption
  iintro ⟨Ho, HO⟩
  iapply (step_own m c (n := t.val + 28) (i := 32) (by omega) (by omega) (ringSlot_eq (h' := fun _ => rfl) (t.val + 28) (off38 t))
    shapeCasts_S1x1024x256_S1024x256.symm) $$ Hg
  iintro Hg
  iapply (wp_done c)
  iapply Hk $$ [Hg Hr Hd Ha Ho HO]
  swap; · ipureintro; rfl
  isplitl [Hg]; · iexact Hg
  isplitr [HO]
  · isplitl [Hr]; · iexact Hr
    isplitl [Hd]; · iexact Hd
    isplitl [Ha] <;> iassumption
  iexact HO

end Part9

section Part10
variable {Q : (Σ' (_ : BitVec 32) (_ : BitVec 32) (_ : BitVec 1), BitVec 1) → sProp (MT nD τ sig Unit (Elt F) ℕ UU ℕ)}

set_option maxHeartbeats 3200000 in
/-- The two products are added. -/
theorem part10 (t : Fin k0_t2_loop.trips) (x y z : BitVec 32) (u v : BitVec 1) (X : S1024x256.Idx → Elt F .f32)
    (hX : X = k0_pay4 (shapeCast S1x1024x256 (ownVal m c (t.val + 28)) shapeCasts_S1x1024x256_S1024x256.symm)) :
    iprop(tailSum m c (t.val + 28) (resMid m c (t.val + 28)) ∗ (tailReady m c (t.val + 28) -∗ ∀ r, Q r))
      ⊢ Wp c (k0_part10 (F := F) a0 h0 a1 h1 a2 h2 a3 h3 a4 h4 a5 h5 a6 h6 a7 h7 a8 h8 a9 h9 a10 a11 a12 a13 a14 a15 t x X y z u v) Q := by
  subst hX
  simp only [k0_part10_eq_skeleton]; unfold k0_part10_skel
  simp only [semSignalWord, semWaitWord, Prog.lift, Prog.bind_op, Prog.bind_ret, Prog.pure_eq_ret]
  iintro ⟨Ht, Hk⟩
  iapply (step_add m c (n := t.val + 28) (addSlot_eq (h' := fun _ => rfl) (t.val + 28) (off39 t)) (resSlot_eq (h' := fun _ => rfl) (t.val + 28) (off39 t))
    (resSlot_eq (h' := fun _ => rfl) (t.val + 28) (off39 t)) shapeCasts_S1x1024x256_S1024x256.symm shapeCasts_S1x1024x256_S1024x256.symm
    shapeCasts_S1x1024x256_S1024x256 (by rfl)) $$ Ht
  iintro Ht
  iapply (wp_done c)
  iapply Hk $$ Ht

end Part10

/-- The state before round `n` of those after the main loop. -/
def lateInv (n : ℕ) : sProp 𝕄 := iprop(ring m c 32 ∗ tail m c (n + 28) ∗ Ow c (owed c 32))

section Body
variable {Q : Unit → sProp (MT nD τ sig Unit (Elt F) ℕ UU ℕ)}

set_option maxHeartbeats 6400000 in
/-- One of the rounds after the main loop. -/
theorem late (t : Fin k0_t2_loop.trips) (v5 v8 v9 : BitVec 32) :
    iprop((levAts L lv ∗ lateInv m c t.val) ∗ (lateInv m c (t.val + 1) -∗ Q ()))
      ⊢ Wp c (k0_t2_body (F := F) a0 h0 a1 h1 a2 h2 a3 h3 a4 h4 a5 h5 a6 h6 a7 h7 a8 h8 a9 h9 a10 a11 a12 a13 a14 a15 v5 v8 v9 t ()) Q := by
  unfold k0_t2_body
  simp only [semSignalWord, semWaitWord, Prog.lift, Prog.bind_op, Prog.bind_ret, Prog.pure_eq_ret]
  have ht := trip_lt₂ t
  unfold lateInv
  rw [show t.val + 1 + 28 = t.val + 28 + 1 by omega]
  iintro ⟨⟨#Hlev, Hg, Ht, HO⟩, Hk⟩
  rw [wp_seq]
  iapply (part7 m c t)
  isplitl [Ht HO]
  · isplitr; · iexact Hlev
    isplitl [Ht] <;> iassumption
  iintro ⟨Ht, HO⟩ %x
  rw [wp_seq]
  iapply (part8 m c t)
  isplitl [Ht]; · iexact Ht
  iintro Ht %y
  rw [wp_seq]
  iapply (part9 m c t)
  isplitl [Hg Ht HO]
  · isplitr; · iexact Hlev
    isplitl [Hg]; · iexact Hg
    isplitl [Ht] <;> iassumption
  iintro ⟨Hg, Ht, HO⟩ %v %p %q %r %s %hv
  rw [wp_seq]
  iapply (part10 m c t _ _ _ _ _ v hv)
  isplitl [Ht]; · iexact Ht
  iintro Ht %z
  iapply (step_write m c (resSlot_eq (t.val + 28) (off33 t)) (outCol_eq (t.val + 28) (off40 t)) (resSem_eq (t.val + 28) (off34 t))) $$ Ht
  iintro Ht
  iapply (wp_done c)
  iapply Hk
  isplitl [Hg]; · iexact Hg
  isplitl [Ht] <;> iassumption

end Body

end Cert.Pair

end
-- ==== Proof.Imports.lean ====
/-
The start of the kernel: the device's part of `O` is brought in head by head, and the partners meet at the barrier.
-/
module

public import proofs.«01_k».proof.Proof.Steps

@[expose] public section

set_option maxRecDepth 16384

noncomputable section

namespace Cert.Pair

open Cert.KernelIdeal Cert.KernelIdeal.Gen
open Idealize.ShloMosaic
open Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD)

/-- Head `j` on its way in. -/
def flyImp (j : ℕ) : sProp 𝕄 :=
  Fly c (impSem j) (dstHead 0).view.dmaCredit iprop(own c (dstHead j) (headVal m c j) ∗ own c (srcHead j) (headVal m c j))

/-- The heads: those below `lo` are in, those below `hi` under way. -/
def imports (lo hi : ℕ) : sProp 𝕄 :=
  phases lo hi (fun j => iprop(own c (dstHead j) (headVal m c j) ∗ own c (srcHead j) (headVal m c j) ∗ sem0 c (impSem j))) (flyImp m c)
    (fun j => iprop(own c (srcHead j) (headVal m c j) ∗ free c (dstHead j) ∗ sem0 c (impSem j)))

section Imports
variable {α : Type}
variable {Q : α → sProp (MT nD τ sig Unit (Elt F) ℕ UU ℕ)}

/-- The next head's transfer begins. -/
theorem step_import (j : ℕ) (hj : j < 32) {o₁ : Fin 4 → ℕ} {o₂ : Fin 2 → ℕ} {o₃ : Fin 1 → ℕ}
    {b₁ : ∀ a, o₁ a + S1x2048x1x128.size a ≤ S1x2048x32x128.size a} {b₁' : ∀ a, (Rect.unit (s := S1x2048x32x128) o₁ S1x2048x1x128.size b₁).stride a = 1}
    {b₂ : ∀ a, o₂ a + S2048x128.size a ≤ S2048x4096.size a} {b₂' : ∀ a, (Rect.unit (s := S2048x4096) o₂ S2048x128.size b₂).stride a = 1}
    {b₃ : ∀ a, o₃ a + S1.size a ≤ S32.size a} {w₁} {w₂} {w₃}
    {k : PUnit → Prog (TpuEff nD τ sig (Elt F) Λ₀ .tc) α}
    (e₁ : o₁ = ![0, 0, j % 32, 0]) (e₂ : o₂ = ![0, 128 * (j % 32)]) (e₃ : o₃ = ![j % 32]) :
    imports m c 0 j ⊢ iprop((imports m c 0 (j + 1) -∗ Wp c (k ⟨⟩) Q)
      -∗ Wp c (.op (.enqueueDma ((a0.slice (Rect.unit (s := S1x2048x32x128) o₁ S1x2048x1x128.size b₁) b₁').squeeze S2048x128 squeezes_S1x2048x1x128_S2048x128)
          (.here (a4.slice (Rect.unit (s := S2048x4096) o₂ S2048x128.size b₂) b₂'))
          (.dma ((a10.slice (Rect.unit (s := S32) o₃ S1.size b₃)).squeeze S_ squeezes_S1_S_).sem) w₁ w₂ w₃) k) Q) := by
  have e : imports m c 0 j ⊢ iprop((own c (srcHead j) (headVal m c j) ∗ free c (dstHead j) ∗ sem0 c (impSem j))
      ∗ (flyImp m c j -∗ imports m c 0 (j + 1))) := phases_begin (Nat.zero_le j) hj
  iintro H Hk
  ihave ⟨H, Hn⟩ := e $$ H
  iapply (wp_start c (srcHead_eq j e₁) (dstHead_eq j e₂) (impSem_eq j e₃) (by decide)) $$ H
  iintro H
  iapply Hk
  iapply Hn
  unfold flyImp
  iexact H

/-- The next head is in. -/
theorem step_imported (j : ℕ) (hj : j < 32) {sp₁ : Space} {s₁ : Shape} {e₁ : EltTy} {src' : Memref sig .tc sp₁ s₁ e₁} {o₂ : Fin 2 → ℕ} {o₃ : Fin 1 → ℕ}
    {b₂ : ∀ a, o₂ a + S2048x128.size a ≤ S2048x4096.size a} {b₂' : ∀ a, (Rect.unit (s := S2048x4096) o₂ S2048x128.size b₂).stride a = 1}
    {b₃ : ∀ a, o₃ a + S1.size a ≤ S32.size a} {w₁} {w₂}
    {k : PUnit → Prog (TpuEff nD τ sig (Elt F) Λ₀ .tc) α} (e₃ : o₃ = ![j % 32]) :
    iprop(levAts L lv ∗ imports m c j 32 ∗ Ow c (owed c 0)) ⊢ iprop((iprop(imports m c (j + 1) 32 ∗ Ow c (owed c 0)) -∗ Wp c (k ⟨⟩) Q)
      -∗ Wp c (.op (.waitDma2 ((a10.slice (Rect.unit (s := S32) o₃ S1.size b₃)).squeeze S_ squeezes_S1_S_).sem src'
          (a4.slice (Rect.unit (s := S2048x4096) o₂ S2048x128.size b₂) b₂') w₁ w₂) k) Q) := by
  have e : imports m c j 32 ⊢ iprop(flyImp m c j
      ∗ ((own c (dstHead j) (headVal m c j) ∗ own c (srcHead j) (headVal m c j) ∗ sem0 c (impSem j)) -∗ imports m c (j + 1) 32)) := phases_end hj hj
  iintro ⟨#Hlev, H, HO⟩ Hk
  ihave ⟨H, Hn⟩ := e $$ H
  unfold flyImp
  iapply (wp_wait c (impSem_eq j e₃) (by rfl) (rlev_imp j)) $$ [H HO]
  · isplitr; · iexact Hlev
    isplitl [H]; · iexact H
    iexact HO
  iintro ⟨⟨Hd, Hs⟩, Hq, HO⟩
  iapply Hk
  isplitr [HO]
  · iapply Hn
    isplitl [Hd]; · iexact Hd
    isplitl [Hs]; · iexact Hs
    iexact Hq
  iexact HO

end Imports

section Start
variable {Q : (Σ' (_ : Dev nD) (_ : BitVec 32) (_ : BitVec 32) (_ : BitVec 32), BitVec 32) → sProp (MT nD τ sig Unit (Elt F) ℕ UU ℕ)}

set_option maxHeartbeats 3200000 in
/-- The first three heads. -/
theorem part11 :
    iprop(imports m c 0 0 ∗ (imports m c 0 3 -∗ ∀ x p q r s, ⌜x = c⌝ -∗ Q ⟨x, p, q, r, s⟩)) ⊢ Wp c (k0_part11 (F := F) a0 h0 a1 h1 a2 h2 a3 h3 a4 h4 a5 h5 a6 h6 a7 h7 a8 h8 a9 h9 a10 a11 a12 a13 a14 a15) Q := by
  simp only [k0_part11_eq_skeleton]; unfold k0_part11_skel Wp
  simp only [semSignalWord, semWaitWord, Prog.lift, Prog.bind_op, Prog.bind_ret, Prog.pure_eq_ret, wp_deviceId]
  iintro ⟨H, Hk⟩
  iapply (step_import m c 0 (by decide) rfl rfl rfl) $$ H; iintro H
  iapply (step_import m c 1 (by decide) rfl rfl rfl) $$ H; iintro H
  iapply (step_import m c 2 (by decide) rfl rfl rfl) $$ H; iintro H
  iapply (wp_done c)
  iapply Hk $$ H
  ipureintro; rfl

end Start

section Starts
variable {Q : PUnit → sProp (MT nD τ sig Unit (Elt F) ℕ UU ℕ)}

set_option maxHeartbeats 3200000 in
/-- Heads 3 to 6. -/
theorem part12 : iprop(imports m c 0 3 ∗ (imports m c 0 7 -∗ Q ⟨⟩)) ⊢ Wp c (k0_part12 (F := F) a0 h0 a1 h1 a2 h2 a3 h3 a4 h4 a5 h5 a6 h6 a7 h7 a8 h8 a9 h9 a10 a11 a12 a13 a14 a15) Q := by
  simp only [k0_part12_eq_skeleton]; unfold k0_part12_skel
  simp only [semSignalWord, semWaitWord, Prog.lift, Prog.bind_op, Prog.bind_ret, Prog.pure_eq_ret]
  iintro ⟨H, Hk⟩
  iapply (step_import m c 3 (by decide) rfl rfl rfl) $$ H; iintro H
  iapply (step_import m c 4 (by decide) rfl rfl rfl) $$ H; iintro H
  iapply (step_import m c 5 (by decide) rfl rfl rfl) $$ H; iintro H
  iapply (step_import m c 6 (by decide) rfl rfl rfl) $$ H; iintro H
  iapply (wp_done c)
  iapply Hk $$ H

set_option maxHeartbeats 3200000 in
/-- Heads 7 to 11. -/
theorem part13 : iprop(imports m c 0 7 ∗ (imports m c 0 12 -∗ Q ⟨⟩)) ⊢ Wp c (k0_part13 (F := F) a0 h0 a1 h1 a2 h2 a3 h3 a4 h4 a5 h5 a6 h6 a7 h7 a8 h8 a9 h9 a10 a11 a12 a13 a14 a15) Q := by
  simp only [k0_part13_eq_skeleton]; unfold k0_part13_skel
  simp only [semSignalWord, semWaitWord, Prog.lift, Prog.bind_op, Prog.bind_ret, Prog.pure_eq_ret]
  iintro ⟨H, Hk⟩
  iapply (step_import m c 7 (by decide) rfl rfl rfl) $$ H; iintro H
  iapply (step_import m c 8 (by decide) rfl rfl rfl) $$ H; iintro H
  iapply (step_import m c 9 (by decide) rfl rfl rfl) $$ H; iintro H
  iapply (step_import m c 10 (by decide) rfl rfl rfl) $$ H; iintro H
  iapply (step_import m c 11 (by decide) rfl rfl rfl) $$ H; iintro H
  iapply (wp_done c)
  iapply Hk $$ H

set_option maxHeartbeats 3200000 in
/-- Heads 12 to 16. -/
theorem part14 : iprop(imports m c 0 12 ∗ (imports m c 0 17 -∗ Q ⟨⟩)) ⊢ Wp c (k0_part14 (F := F) a0 h0 a1 h1 a2 h2 a3 h3 a4 h4 a5 h5 a6 h6 a7 h7 a8 h8 a9 h9 a10 a11 a12 a13 a14 a15) Q := by
  simp only [k0_part14_eq_skeleton]; unfold k0_part14_skel
  simp only [semSignalWord, semWaitWord, Prog.lift, Prog.bind_op, Prog.bind_ret, Prog.pure_eq_ret]
  iintro ⟨H, Hk⟩
  iapply (step_import m c 12 (by decide) rfl rfl rfl) $$ H; iintro H
  iapply (step_import m c 13 (by decide) rfl rfl rfl) $$ H; iintro H
  iapply (step_import m c 14 (by decide) rfl rfl rfl) $$ H; iintro H
  iapply (step_import m c 15 (by decide) rfl rfl rfl) $$ H; iintro H
  iapply (step_import m c 16 (by decide) rfl rfl rfl) $$ H; iintro H
  iapply (wp_done c)
  iapply Hk $$ H

set_option maxHeartbeats 3200000 in
/-- Heads 17 to 20. -/
theorem part15 : iprop(imports m c 0 17 ∗ (imports m c 0 21 -∗ Q ⟨⟩)) ⊢ Wp c (k0_part15 (F := F) a0 h0 a1 h1 a2 h2 a3 h3 a4 h4 a5 h5 a6 h6 a7 h7 a8 h8 a9 h9 a10 a11 a12 a13 a14 a15) Q := by
  simp only [k0_part15_eq_skeleton]; unfold k0_part15_skel
  simp only [semSignalWord, semWaitWord, Prog.lift, Prog.bind_op, Prog.bind_ret, Prog.pure_eq_ret]
  iintro ⟨H, Hk⟩
  iapply (step_import m c 17 (by decide) rfl rfl rfl) $$ H; iintro H
  iapply (step_import m c 18 (by decide) rfl rfl rfl) $$ H; iintro H
  iapply (step_import m c 19 (by decide) rfl rfl rfl) $$ H; iintro H
  iapply (step_import m c 20 (by decide) rfl rfl rfl) $$ H; iintro H
  iapply (wp_done c)
  iapply Hk $$ H

set_option maxHeartbeats 3200000 in
/-- Heads 21 to 25. -/
theorem part16 : iprop(imports m c 0 21 ∗ (imports m c 0 26 -∗ Q ⟨⟩)) ⊢ Wp c (k0_part16 (F := F) a0 h0 a1 h1 a2 h2 a3 h3 a4 h4 a5 h5 a6 h6 a7 h7 a8 h8 a9 h9 a10 a11 a12 a13 a14 a15) Q := by
  simp only [k0_part16_eq_skeleton]; unfold k0_part16_skel
  simp only [semSignalWord, semWaitWord, Prog.lift, Prog.bind_op, Prog.bind_ret, Prog.pure_eq_ret]
  iintro ⟨H, Hk⟩
  iapply (step_import m c 21 (by decide) rfl rfl rfl) $$ H; iintro H
  iapply (step_import m c 22 (by decide) rfl rfl rfl) $$ H; iintro H
  iapply (step_import m c 23 (by decide) rfl rfl rfl) $$ H; iintro H
  iapply (step_import m c 24 (by decide) rfl rfl rfl) $$ H; iintro H
  iapply (step_import m c 25 (by decide) rfl rfl rfl) $$ H; iintro H
  iapply (wp_done c)
  iapply Hk $$ H

set_option maxHeartbeats 3200000 in
/-- Heads 26 to 29. -/
theorem part17 : iprop(imports m c 0 26 ∗ (imports m c 0 30 -∗ Q ⟨⟩)) ⊢ Wp c (k0_part17 (F := F) a0 h0 a1 h1 a2 h2 a3 h3 a4 h4 a5 h5 a6 h6 a7 h7 a8 h8 a9 h9 a10 a11 a12 a13 a14 a15) Q := by
  simp only [k0_part17_eq_skeleton]; unfold k0_part17_skel
  simp only [semSignalWord, semWaitWord, Prog.lift, Prog.bind_op, Prog.bind_ret, Prog.pure_eq_ret]
  iintro ⟨H, Hk⟩
  iapply (step_import m c 26 (by decide) rfl rfl rfl) $$ H; iintro H
  iapply (step_import m c 27 (by decide) rfl rfl rfl) $$ H; iintro H
  iapply (step_import m c 28 (by decide) rfl rfl rfl) $$ H; iintro H
  iapply (step_import m c 29 (by decide) rfl rfl rfl) $$ H; iintro H
  iapply (wp_done c)
  iapply Hk $$ H

set_option maxHeartbeats 3200000 in
/-- Heads 0 to 4 are in. -/
theorem part19 :
    iprop(levAts L lv ∗ (imports m c 0 32 ∗ Ow c (owed c 0)) ∗ (iprop(imports m c 5 32 ∗ Ow c (owed c 0)) -∗ Q ⟨⟩)) ⊢ Wp c (k0_part19 (F := F) a0 h0 a1 h1 a2 h2 a3 h3 a4 h4 a5 h5 a6 h6 a7 h7 a8 h8 a9 h9 a10 a11 a12 a13 a14 a15) Q := by
  simp only [k0_part19_eq_skeleton]; unfold k0_part19_skel
  simp only [semSignalWord, semWaitWord, Prog.lift, Prog.bind_op, Prog.bind_ret, Prog.pure_eq_ret]
  iintro ⟨#Hlev, H, Hk⟩
  iapply (step_imported m c 0 (by decide) rfl) $$ [H]; · isplitr; (· iexact Hlev); iexact H
  iintro H
  iapply (step_imported m c 1 (by decide) rfl) $$ [H]; · isplitr; (· iexact Hlev); iexact H
  iintro H
  iapply (step_imported m c 2 (by decide) rfl) $$ [H]; · isplitr; (· iexact Hlev); iexact H
  iintro H
  iapply (step_imported m c 3 (by decide) rfl) $$ [H]; · isplitr; (· iexact Hlev); iexact H
  iintro H
  iapply (step_imported m c 4 (by decide) rfl) $$ [H]; · isplitr; (· iexact Hlev); iexact H
  iintro H
  iapply (wp_done c)
  iapply Hk $$ H

set_option maxHeartbeats 3200000 in
/-- Heads 5 to 9 are in. -/
theorem part20 :
    iprop(levAts L lv ∗ (imports m c 5 32 ∗ Ow c (owed c 0)) ∗ (iprop(imports m c 10 32 ∗ Ow c (owed c 0)) -∗ Q ⟨⟩)) ⊢ Wp c (k0_part20 (F := F) a0 h0 a1 h1 a2 h2 a3 h3 a4 h4 a5 h5 a6 h6 a7 h7 a8 h8 a9 h9 a10 a11 a12 a13 a14 a15) Q := by
  simp only [k0_part20_eq_skeleton]; unfold k0_part20_skel
  simp only [semSignalWord, semWaitWord, Prog.lift, Prog.bind_op, Prog.bind_ret, Prog.pure_eq_ret]
  iintro ⟨#Hlev, H, Hk⟩
  iapply (step_imported m c 5 (by decide) rfl) $$ [H]; · isplitr; (· iexact Hlev); iexact H
  iintro H
  iapply (step_imported m c 6 (by decide) rfl) $$ [H]; · isplitr; (· iexact Hlev); iexact H
  iintro H
  iapply (step_imported m c 7 (by decide) rfl) $$ [H]; · isplitr; (· iexact Hlev); iexact H
  iintro H
  iapply (step_imported m c 8 (by decide) rfl) $$ [H]; · isplitr; (· iexact Hlev); iexact H
  iintro H
  iapply (step_imported m c 9 (by decide) rfl) $$ [H]; · isplitr; (· iexact Hlev); iexact H
  iintro H
  iapply (wp_done c)
  iapply Hk $$ H

set_option maxHeartbeats 3200000 in
/-- Heads 10 to 13 are in. -/
theorem part21 :
    iprop(levAts L lv ∗ (imports m c 10 32 ∗ Ow c (owed c 0)) ∗ (iprop(imports m c 14 32 ∗ Ow c (owed c 0)) -∗ Q ⟨⟩)) ⊢ Wp c (k0_part21 (F := F) a0 h0 a1 h1 a2 h2 a3 h3 a4 h4 a5 h5 a6 h6 a7 h7 a8 h8 a9 h9 a10 a11 a12 a13 a14 a15) Q := by
  simp only [k0_part21_eq_skeleton]; unfold k0_part21_skel
  simp only [semSignalWord, semWaitWord, Prog.lift, Prog.bind_op, Prog.bind_ret, Prog.pure_eq_ret]
  iintro ⟨#Hlev, H, Hk⟩
  iapply (step_imported m c 10 (by decide) rfl) $$ [H]; · isplitr; (· iexact Hlev); iexact H
  iintro H
  iapply (step_imported m c 11 (by decide) rfl) $$ [H]; · isplitr; (· iexact Hlev); iexact H
  iintro H
  iapply (step_imported m c 12 (by decide) rfl) $$ [H]; · isplitr; (· iexact Hlev); iexact H
  iintro H
  iapply (step_imported m c 13 (by decide) rfl) $$ [H]; · isplitr; (· iexact Hlev); iexact H
  iintro H
  iapply (wp_done c)
  iapply Hk $$ H

set_option maxHeartbeats 3200000 in
/-- Heads 14 to 18 are in. -/
theorem part22 :
    iprop(levAts L lv ∗ (imports m c 14 32 ∗ Ow c (owed c 0)) ∗ (iprop(imports m c 19 32 ∗ Ow c (owed c 0)) -∗ Q ⟨⟩)) ⊢ Wp c (k0_part22 (F := F) a0 h0 a1 h1 a2 h2 a3 h3 a4 h4 a5 h5 a6 h6 a7 h7 a8 h8 a9 h9 a10 a11 a12 a13 a14 a15) Q := by
  simp only [k0_part22_eq_skeleton]; unfold k0_part22_skel
  simp only [semSignalWord, semWaitWord, Prog.lift, Prog.bind_op, Prog.bind_ret, Prog.pure_eq_ret]
  iintro ⟨#Hlev, H, Hk⟩
  iapply (step_imported m c 14 (by decide) rfl) $$ [H]; · isplitr; (· iexact Hlev); iexact H
  iintro H
  iapply (step_imported m c 15 (by decide) rfl) $$ [H]; · isplitr; (· iexact Hlev); iexact H
  iintro H
  iapply (step_imported m c 16 (by decide) rfl) $$ [H]; · isplitr; (· iexact Hlev); iexact H
  iintro H
  iapply (step_imported m c 17 (by decide) rfl) $$ [H]; · isplitr; (· iexact Hlev); iexact H
  iintro H
  iapply (step_imported m c 18 (by decide) rfl) $$ [H]; · isplitr; (· iexact Hlev); iexact H
  iintro H
  iapply (wp_done c)
  iapply Hk $$ H

set_option maxHeartbeats 3200000 in
/-- Heads 19 to 23 are in. -/
theorem part23 :
    iprop(levAts L lv ∗ (imports m c 19 32 ∗ Ow c (owed c 0)) ∗ (iprop(imports m c 24 32 ∗ Ow c (owed c 0)) -∗ Q ⟨⟩)) ⊢ Wp c (k0_part23 (F := F) a0 h0 a1 h1 a2 h2 a3 h3 a4 h4 a5 h5 a6 h6 a7 h7 a8 h8 a9 h9 a10 a11 a12 a13 a14 a15) Q := by
  simp only [k0_part23_eq_skeleton]; unfold k0_part23_skel
  simp only [semSignalWord, semWaitWord, Prog.lift, Prog.bind_op, Prog.bind_ret, Prog.pure_eq_ret]
  iintro ⟨#Hlev, H, Hk⟩
  iapply (step_imported m c 19 (by decide) rfl) $$ [H]; · isplitr; (· iexact Hlev); iexact H
  iintro H
  iapply (step_imported m c 20 (by decide) rfl) $$ [H]; · isplitr; (· iexact Hlev); iexact H
  iintro H
  iapply (step_imported m c 21 (by decide) rfl) $$ [H]; · isplitr; (· iexact Hlev); iexact H
  iintro H
  iapply (step_imported m c 22 (by decide) rfl) $$ [H]; · isplitr; (· iexact Hlev); iexact H
  iintro H
  iapply (step_imported m c 23 (by decide) rfl) $$ [H]; · isplitr; (· iexact Hlev); iexact H
  iintro H
  iapply (wp_done c)
  iapply Hk $$ H

set_option maxHeartbeats 3200000 in
/-- Heads 24 to 27 are in. -/
theorem part24 :
    iprop(levAts L lv ∗ (imports m c 24 32 ∗ Ow c (owed c 0)) ∗ (iprop(imports m c 28 32 ∗ Ow c (owed c 0)) -∗ Q ⟨⟩)) ⊢ Wp c (k0_part24 (F := F) a0 h0 a1 h1 a2 h2 a3 h3 a4 h4 a5 h5 a6 h6 a7 h7 a8 h8 a9 h9 a10 a11 a12 a13 a14 a15) Q := by
  simp only [k0_part24_eq_skeleton]; unfold k0_part24_skel
  simp only [semSignalWord, semWaitWord, Prog.lift, Prog.bind_op, Prog.bind_ret, Prog.pure_eq_ret]
  iintro ⟨#Hlev, H, Hk⟩
  iapply (step_imported m c 24 (by decide) rfl) $$ [H]; · isplitr; (· iexact Hlev); iexact H
  iintro H
  iapply (step_imported m c 25 (by decide) rfl) $$ [H]; · isplitr; (· iexact Hlev); iexact H
  iintro H
  iapply (step_imported m c 26 (by decide) rfl) $$ [H]; · isplitr; (· iexact Hlev); iexact H
  iintro H
  iapply (step_imported m c 27 (by decide) rfl) $$ [H]; · isplitr; (· iexact Hlev); iexact H
  iintro H
  iapply (wp_done c)
  iapply Hk $$ H

end Starts

/-! ## The barrier -/

/-- What device `d` is handed at the barrier: its partner's slots. -/
def handed (d : Dev nD) : sProp 𝕄 := bigSep (Finset.range 32) fun j => free (peer d) (recvSlot j)

instance (d : Dev nD) : BI.Storable (upEmb : UEmb _ 𝕄) (handed d : sProp 𝕄) := by unfold handed; infer_instance

section Meet
variable {Q : (Σ' (_ : BitVec 32), BitVec 32) → sProp (MT nD τ sig Unit (Elt F) ℕ UU ℕ)}

set_option maxHeartbeats 6400000 in
/-- The last two heads, the meeting, and the first chunk of `Wo`. -/
theorem part18 (x y z u : BitVec 32) :
    iprop((levAts L lv ∗ imports m c 0 30
        ∗ (Tick (peer c) (.reg barS) 1 (handed (peer c)) ∗ handed (peer c) ∗ Tock c (.reg barS) 1 (handed c) ∗ cred (tallyAt ((c : Thread nD τ), .reg barS) () 1))
        ∗ fetch m c 0 0 ∗ woIdle c 0 ∗ woIdle c 1 ∗ Ow c (owed c 0 + tallyAt ((peer c : Thread nD τ), .reg barS) () 1))
      ∗ (iprop(imports m c 0 32 ∗ handed c ∗ semVal ((c : Thread nD τ), .reg barS) 0 ∗ woInv m c 0 ∗ Ow c (owed c 0)) -∗ ∀ r, Q r))
      ⊢ Wp c (k0_part18 (F := F) a0 h0 a1 h1 a2 h2 a3 h3 a4 h4 a5 h5 a6 h6 a7 h7 a8 h8 a9 h9 a10 a11 a12 a13 a14 a15 c x y z u) Q := by
  simp only [k0_part18_eq_skeleton]; unfold k0_part18_skel
  simp only [semSignalWord, semWaitWord, Prog.lift, Prog.bind_op, Prog.bind_ret, Prog.pure_eq_ret]
  unfold Ow woIdle
  iintro ⟨⟨#Hlev, H, ⟨Htick, Hg, Htock, Hc⟩, Hf, ⟨Hd, Hq⟩, Hi, %W, HO⟩, Hk⟩
  iapply (step_import m c 30 (by decide) rfl rfl rfl) $$ H; iintro H
  iapply (step_import m c 31 (by decide) rfl rfl rfl) $$ H; iintro H
  iapply (wp_signal c (owed c 0) (congrArg (fun d : Dev nD => (d : Thread nD τ)) (dev1_eq c)) (by rfl) rfl) $$ [Htick Hg HO]
  · isplitl [Htick]; · iexact Htick
    isplitl [Hg] <;> iassumption
  iintro HO
  iapply (wp_await c (by rfl)) $$ [Htock Hc HO]
  · isplitl [Htock]; · iexact Htock
    isplitl [Hc]; · iexact Hc
    isplitl [HO]; · iexact HO
    iapply (mayWait c (.reg barS) 0 1 (by exact le_refl 1) (fun _ _ _ => by omega))
    iexact Hlev
  iintro ⟨Hg, Hv, HO⟩
  have e : fetch m c 0 0 ⊢ iprop(own c (woChunk 0) (wVal m c 0) ∗ (flyWo m c 0 -∗ fetch m c 0 1)) := phases_begin (le_refl 0) (by decide)
  ihave ⟨Hw, Hf⟩ := e $$ Hf
  iapply (wp_start c (woChunk_eq 0 (by rfl)) (woSlot_eq 0 (by rfl)) (woSem_eq 0 (by rfl)) (by decide)) $$ [Hw Hd Hq]
  · isplitl [Hw]; · iexact Hw
    isplitl [Hd] <;> iassumption
  iintro Hw
  iapply (wp_done c)
  iapply Hk $$ [H Hg Hv Hf Hw Hi HO]
  isplitl [H]; · iexact H
  isplitl [Hg]; · iexact Hg
  isplitl [Hv]; · iexact Hv
  isplitr [HO]
  · unfold woInv woRest woIdle
    isplitl [Hf Hw]
    · iapply Hf
      unfold flyWo
      iexact Hw
    isplitl [Hi]
    · iexact Hi
    iempintro
  iexists _; iexact HO

end Meet

end Cert.Pair

end
-- ==== Proof.Cut.lean ====
/- How a whole buffer is cut into the pieces the device works with, and put together from them again. -/
module

public import proofs.«01_k».proof.Proof.Pieces
public import Idealize.ShloMosaic.Lib.ValueLayout

@[expose] public section

set_option maxRecDepth 16384

noncomputable section

namespace Cert.Pair

open Cert.KernelIdeal Cert.KernelIdeal.Gen
open Idealize.ShloMosaic
open Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Families by number -/

omit [FloatOps F] in
/-- A family over the numbers below `n` is the family over `Fin n`. -/
theorem bigSep_range (n : ℕ) (Φ : ℕ → sProp 𝕄) :
    bigSep (Finset.range n) Φ = bigSep (Finset.univ : Finset (Fin n)) (fun t => Φ t.val) := by
  refine Eq.trans ?_ (bigSep_map (Fin.valEmbedding (n := n)) (Φ := Φ) (s := Finset.univ))
  congr 1
  ext j
  rw [Finset.mem_range, Finset.mem_map]
  exact ⟨fun h => ⟨⟨j, h⟩, Finset.mem_univ _, rfl⟩, fun ⟨t, _, h⟩ => h ▸ t.isLt⟩

/-! ## Strips -/

/-- Unit-stride rectangles that partition a shape. -/
structure Strips {sh : Shape} (n : ℕ) (r : Fin n → Rect sh) : Prop where
  one : ∀ t a, (r t).stride a = 1
  apart : ∀ t t', t ≠ t' → Disjoint (r t).set (r t').set
  all : (Finset.univ : Finset (Fin n)).biUnion (fun t => (r t).set) = Finset.univ

/-- Strips of width `w` along axis `a` partition a shape. -/
theorem strips {sh : Shape} {n : ℕ} {off : Fin n → Fin sh.rank → ℕ} {size : Fin sh.rank → ℕ} {inb : ∀ t a, off t a + size a ≤ sh.size a}
    (a : Fin sh.rank) (w : ℕ) (hw : 0 < w) (ho : ∀ t, off t a = w * t.val) (hs : size a = w) (hn : sh.size a = w * n)
    (h0 : ∀ b, b ≠ a → (∀ t, off t b = 0) ∧ size b = sh.size b) :
    Strips n (fun t => Rect.unit (off t) size (inb t)) where
  one _ _ := rfl
  apart t t' hne := by
    refine Rect.unit_disjoint a ?_
    rw [ho, ho, hs]
    have hne : t.val ≠ t'.val := fun h => hne (Fin.ext h)
    rcases Nat.lt_or_gt_of_ne hne with h | h
    · left; rw [← Nat.mul_succ]; exact Nat.mul_le_mul_left _ h
    · right; rw [← Nat.mul_succ]; exact Nat.mul_le_mul_left _ h
  all := by
    ext i
    refine ⟨fun _ => Finset.mem_univ _, fun _ => ?_⟩
    have hi : (i a).val < w * n := hn ▸ (i a).isLt
    refine Finset.mem_biUnion.mpr ⟨⟨(i a).val / w, Nat.div_lt_of_lt_mul hi⟩, Finset.mem_univ _, Rect.mem_set_unit.mpr fun b => ?_⟩
    by_cases hb : b = a
    · subst hb
      rw [ho, hs]
      have := Nat.div_add_mod (i b).val w
      have := Nat.mod_lt (i b).val hw
      constructor <;> dsimp only <;> omega
    · obtain ⟨h1, h2⟩ := h0 b hb
      rw [h1, h2]
      exact ⟨Nat.zero_le _, by rw [Nat.zero_add]; exact (i b).isLt⟩

/-! ## Cutting and joining -/

section Cut
variable (c : Dev nD) {sp : Space} {s s' sh : Shape} {e : EltTy}

omit [FloatOps F] in
/-- Dropping a unit axis of a piece keeps the values, recast. -/
theorem own_squeeze (S : Memref sig .tc sp s e) (hq : s.Squeezes s') (hc : s.ShapeCasts s') (v : s.Idx → Elt F e) :
    (own c S v : sProp 𝕄) ⊢ own c (S.squeeze s' hq) (shapeCast s' v hc) := by
  iintro H
  ihave ⟨%f, %hf, H⟩ := (own_open c S v) $$ H
  iapply (own_mk c (S.squeeze s' hq) (shapeCast s' v hc) f (by subst hf; rfl))
  rw [show (S.squeeze s' hq).view.set = S.view.set from View.set_reshape S.view hq.numel_eq]
  iexact H

omit [FloatOps F] in
/-- And so does adding it back. -/
theorem own_unsqueeze (S : Memref sig .tc sp s e) (hq : s.Squeezes s') (hc : s'.ShapeCasts s) (v : s'.Idx → Elt F e) :
    (own c (S.squeeze s' hq) v : sProp 𝕄) ⊢ own c S (shapeCast s v hc) := by
  iintro H
  ihave ⟨%f, %hf, H⟩ := (own_open c (S.squeeze s' hq) v) $$ H
  iapply (own_mk c S (shapeCast s v hc) f (by subst hf; exact (shapeCast_shapeCast _ hc.symm hc).symm))
  rw [show (S.squeeze s' hq).view.set = S.view.set from View.set_reshape S.view hq.numel_eq]
  iexact H

variable {n : ℕ} {r : Fin n → Rect sh} (hr : Strips n r) (M : Memref sig .tc sp sh e) (P : ℕ → Memref sig .tc sp s e)

omit [FloatOps F] in
/-- A whole piece cut into strips. -/
theorem own_cut (X : sh.Idx → Elt F e) (V : ℕ → s.Idx → Elt F e)
    (hP : ∀ t, (own c (M.slice (r t) (hr.one t)) (fun j => X ((r t).emb j)) : sProp 𝕄) ⊢ own c (P t.val) (V t.val)) :
    (own c M X : sProp 𝕄) ⊢ bigSep (Finset.range n) fun j => own c (P j) (V j) := by
  rw [bigSep_range]
  exact (owns_rects (c : Thread nD τ) M fullShare r hr.one hr.apart hr.all X).trans (bigSep_mono fun t _ => hP t)

omit [FloatOps F] in
/-- A whole piece put together from strips. -/
theorem own_join [∀ e, Nonempty (Elt F e)] (X : sh.Idx → Elt F e) (V : ℕ → s.Idx → Elt F e)
    (hP : ∀ t, (own c (P t.val) (V t.val) : sProp 𝕄) ⊢ own c (M.slice (r t) (hr.one t)) (fun j => X ((r t).emb j))) :
    bigSep (Finset.range n) (fun j => own c (P j) (V j)) ⊢ (own c M X : sProp 𝕄) := by
  rw [bigSep_range]
  exact (bigSep_mono fun t _ => hP t).trans (owns_of_rects (c : Thread nD τ) M fullShare r hr.one hr.apart hr.all X)

omit [FloatOps F] in
/-- The same, whatever the pieces read. -/
theorem free_cut (hP : ∀ t X, (own c (M.slice (r t) (hr.one t)) X : sProp 𝕄) ⊢ free c (P t.val)) :
    (free c M : sProp 𝕄) ⊢ bigSep (Finset.range n) fun j => free c (P j) := by
  rw [bigSep_range]
  unfold free
  iintro ⟨%X, H⟩
  have e : (own c M X : sProp 𝕄) ⊢ bigSep (Finset.univ : Finset (Fin n)) fun t => free c (P t.val) :=
    (owns_rects (c : Thread nD τ) M fullShare r hr.one hr.apart hr.all X).trans (bigSep_mono fun t _ => hP t _)
  iapply e $$ H

omit [FloatOps F] in
theorem free_join [∀ e, Nonempty (Elt F e)] (hP : ∀ t v, (own c (P t.val) v : sProp 𝕄) ⊢ iprop(∃ X, own c (M.slice (r t) (hr.one t)) X)) :
    bigSep (Finset.range n) (fun j => free c (P j)) ⊢ (free c M : sProp 𝕄) := by
  rw [bigSep_range]
  have h : ∀ t : Fin n, (free c (P t.val) : sProp 𝕄) ⊢ iprop(∃ X, own c (M.slice (r t) (hr.one t)) X) := fun t => by
    unfold free
    iintro ⟨%v, H⟩
    iapply (hP t v) $$ H
  have e₁ : bigSep (Finset.univ : Finset (Fin n)) (fun t => free c (P t.val))
      ⊢ (bigSep (Finset.univ : Finset (Fin n)) (fun t => iprop(∃ X, own c (M.slice (r t) (hr.one t)) X)) : sProp 𝕄) :=
    bigSep_mono fun t _ => h t
  refine e₁.trans ((bigSep_exists_pi Finset.univ fun t X => own c (M.slice (r t) (hr.one t)) X).trans ?_)
  iintro ⟨%Xs, H⟩
  unfold free
  iexists (Rect.glue r hr.all Xs)
  have e₂ : bigSep (Finset.univ : Finset (Fin n)) (fun t => own c (M.slice (r t) (hr.one t)) (Xs t)) ⊢ (own c M (Rect.glue r hr.all Xs) : sProp 𝕄) := by
    refine (bigSep_mono fun t _ => ?_).trans (owns_of_rects (c : Thread nD τ) M fullShare r hr.one hr.apart hr.all (Rect.glue r hr.all Xs))
    rw [show (fun j => Rect.glue r hr.all Xs ((r t).emb j)) = Xs t from funext fun y => Rect.glue_emb r hr.all hr.apart Xs t y]
    exact Entails.of_eq (PROP := sProp 𝕄) rfl
  iapply e₂ $$ H

end Cut

/-! ## The buffers -/

section Buffers
variable (m : (ℓ : Loc nD τ sig) → Buf (Elt F) ℓ) (c : Dev nD)

theorem heads_strips : Strips 32 (fun t : Fin 32 => Rect.unit (s := S1x2048x32x128) ![0, 0, t.val % 32, 0] S1x2048x1x128.size (srcHead_inb t.val)) :=
  strips 2 1 (by decide) (fun t => show t.val % 32 = 1 * t.val by have := t.isLt; omega) rfl rfl
    (fun b hb => match b with
      | ⟨0, _⟩ => ⟨fun _ => rfl, rfl⟩
      | ⟨1, _⟩ => ⟨fun _ => rfl, rfl⟩
      | ⟨2, _⟩ => absurd rfl hb
      | ⟨3, _⟩ => ⟨fun _ => rfl, rfl⟩)

theorem staged_strips : Strips 32 (fun t : Fin 32 => Rect.unit (s := S2048x4096) ![0, 128 * (t.val % 32)] S2048x128.size (dstHead_inb t.val)) :=
  strips 1 128 (by decide) (fun t => show 128 * (t.val % 32) = 128 * t.val by have := t.isLt; omega) rfl rfl
    (fun b hb => match b with
      | ⟨0, _⟩ => ⟨fun _ => rfl, rfl⟩
      | ⟨1, _⟩ => absurd rfl hb)

theorem chunks_strips : Strips 32 (fun t : Fin 32 => Rect.unit (s := S4096x8192) ![0, 256 * (t.val % 32)] S4096x256.size (woChunk_inb t.val)) :=
  strips 1 256 (by decide) (fun t => show 256 * (t.val % 32) = 256 * t.val by have := t.isLt; omega) rfl rfl
    (fun b hb => match b with
      | ⟨0, _⟩ => ⟨fun _ => rfl, rfl⟩
      | ⟨1, _⟩ => absurd rfl hb)

theorem cols_strips : Strips 32 (fun t : Fin 32 => Rect.unit (s := S1x1024x8192) ![0, 0, 256 * (t.val % 32)] S1x1024x256.size (outCol_inb t.val)) :=
  strips 2 256 (by decide) (fun t => show 256 * (t.val % 32) = 256 * t.val by have := t.isLt; omega) rfl rfl
    (fun b hb => match b with
      | ⟨0, _⟩ => ⟨fun _ => rfl, rfl⟩
      | ⟨1, _⟩ => ⟨fun _ => rfl, rfl⟩
      | ⟨2, _⟩ => absurd rfl hb)

/-- The slots of a buffer, one after another. -/
theorem slots_strips {n x y : ℕ} {inb : ∀ t : Fin n, ∀ a, (![t.val % n, 0, 0] : Fin 3 → ℕ) a + (⟨3, ![1, x, y]⟩ : Shape).size a ≤ (⟨3, ![n, x, y]⟩ : Shape).size a} :
    Strips n (fun t : Fin n => Rect.unit (s := ⟨3, ![n, x, y]⟩) ![t.val % n, 0, 0] (⟨3, ![1, x, y]⟩ : Shape).size (inb t)) :=
  strips 0 1 (by decide) (fun t => show t.val % n = 1 * t.val by rw [Nat.mod_eq_of_lt t.isLt, Nat.one_mul]) rfl (show n = 1 * n by rw [Nat.one_mul])
    (fun b hb => match b with
      | ⟨0, _⟩ => absurd rfl hb
      | ⟨1, _⟩ => ⟨fun _ => rfl, rfl⟩
      | ⟨2, _⟩ => ⟨fun _ => rfl, rfl⟩)

omit [FloatOps F] in
/-- The device's part of `O` is its heads, -/
theorem heads_cut : ((c : Thread nD τ).loc main_arg0 ↦{fullShare} m ((c : Thread nD τ).loc main_arg0) : sProp 𝕄)
    ⊢ bigSep (Finset.range 32) fun j => own c (srcHead j) (headVal m c j) :=
  (Entails.of_eq (owns_whole (c : Thread nD τ) main_arg0 fullShare _).symm).trans
    (own_cut c heads_strips a0 srcHead (m ((c : Thread nD τ).loc main_arg0)) (headVal m c)
      (fun t => own_squeeze c _ squeezes_S1x2048x1x128_S2048x128 squeezes_S1x2048x1x128_S2048x128.numel_eq _))

omit [FloatOps F] in
/-- and back. -/
theorem heads_join [∀ e, Nonempty (Elt F e)] : (bigSep (Finset.range 32) fun j => own c (srcHead j) (headVal m c j) : sProp 𝕄)
    ⊢ ((c : Thread nD τ).loc main_arg0 ↦{fullShare} m ((c : Thread nD τ).loc main_arg0)) :=
  (own_join c heads_strips a0 srcHead (m ((c : Thread nD τ).loc main_arg0)) (headVal m c) (fun t => by
      rw [show headVal m c t.val = shapeCast S2048x128 (fun j => m ((c : Thread nD τ).loc main_arg0)
          ((Rect.unit (s := S1x2048x32x128) ![0, 0, t.val % 32, 0] S1x2048x1x128.size (srcHead_inb t.val)).emb j)) squeezes_S1x2048x1x128_S2048x128.numel_eq from rfl]
      refine (own_unsqueeze c _ squeezes_S1x2048x1x128_S2048x128 squeezes_S1x2048x1x128_S2048x128.numel_eq.symm _).trans ?_
      rw [shapeCast_shapeCast])).trans
    (Entails.of_eq (owns_whole (c : Thread nD τ) main_arg0 fullShare _))

omit [FloatOps F] in
/-- The device's part of `Wo` is its column chunks, -/
theorem chunks_cut : ((c : Thread nD τ).loc main_arg1 ↦{fullShare} m ((c : Thread nD τ).loc main_arg1) : sProp 𝕄)
    ⊢ bigSep (Finset.range 32) fun j => own c (woChunk j) (wVal m c j) :=
  (Entails.of_eq (owns_whole (c : Thread nD τ) main_arg1 fullShare _).symm).trans
    (own_cut c chunks_strips a1 woChunk (m ((c : Thread nD τ).loc main_arg1)) (wVal m c) (fun t => Entails.of_eq rfl))

omit [FloatOps F] in
/-- and back. -/
theorem chunks_join [∀ e, Nonempty (Elt F e)] : (bigSep (Finset.range 32) fun j => own c (woChunk j) (wVal m c j) : sProp 𝕄)
    ⊢ ((c : Thread nD τ).loc main_arg1 ↦{fullShare} m ((c : Thread nD τ).loc main_arg1)) :=
  (own_join c chunks_strips a1 woChunk (m ((c : Thread nD τ).loc main_arg1)) (wVal m c) (fun t => Entails.of_eq rfl)).trans
    (Entails.of_eq (owns_whole (c : Thread nD τ) main_arg1 fullShare _))

omit [FloatOps F] in
/-- The staged heads side by side are the one matrix. -/
theorem staged_join [∀ e, Nonempty (Elt F e)] : (bigSep (Finset.range 32) fun j => own c (dstHead j) (headVal m c j) : sProp 𝕄) ⊢ own c a4 (xVal m c) :=
  own_join c staged_strips a4 dstHead (xVal m c) (headVal m c) (fun t => Entails.of_eq (congrArg (own c _) (funext fun i => by
    have ht := t.isLt
    have h1 : (i 1).val < 128 := (i 1).isLt
    have e : ∀ x : S2048x4096.Idx, (x 0).val = (i 0).val → (x 1).val = 128 * t.val + (i 1).val → xVal m c x = headVal m c t.val i := by
      intro x h0 hx
      unfold xVal
      rw [show (x 1).val / 128 = t.val by omega]
      refine congrArg (headVal m c t.val) (funext fun a => ?_)
      match a with
      | ⟨0, _⟩ => exact Fin.ext h0
      | ⟨1, _⟩ => exact Fin.ext (show (x 1).val % 128 = (i 1).val by omega)
    refine (e _ ?_ ?_).symm
    · show 0 + 1 * (i 0).val = (i 0).val
      omega
    · show 128 * (t.val % 32) + 1 * (i 1).val = 128 * t.val + (i 1).val
      omega)))

omit [FloatOps F] in
theorem staged_cut : (free c a4 : sProp 𝕄) ⊢ bigSep (Finset.range 32) fun j => free c (dstHead j) :=
  free_cut c staged_strips a4 dstHead (fun t X => own_free c _ X)

/-- The result of device `c`. -/
def outVal : S1x1024x8192.Idx → Elt F .f32 := fun i =>
  resVal m c ((i 2).val / 256) (ix2 (n := 1024) (k := 256) (i 1) ⟨(i 2).val % 256, Nat.mod_lt _ (by decide)⟩)

/-- The chunks of the result side by side are the result. -/
theorem cols_join [∀ e, Nonempty (Elt F e)] : (bigSep (Finset.range 32) fun j => own c (outCol j) (resVal m c j) : sProp 𝕄)
    ⊢ ((c : Thread nD τ).loc main_v1_0 ↦{fullShare} outVal m c) :=
  (own_join c cols_strips a2 outCol (outVal m c) (resVal m c) (fun t =>
    (own_unsqueeze c _ squeezes_S1x1024x256_S1024x256 squeezes_S1x1024x256_S1024x256.numel_eq.symm _).trans (Entails.of_eq (congrArg (own c _) (funext fun i => by
      have ht := t.isLt
      have h2 : (i 2).val < 256 := (i 2).isLt
      have e : ∀ x : S1x1024x8192.Idx, (x 1).val = (i 1).val → (x 2).val = 256 * t.val + (i 2).val
          → outVal m c x = shapeCast S1x1024x256 (resVal m c t.val) squeezes_S1x1024x256_S1024x256.numel_eq.symm i := by
        intro x h1 hx
        unfold outVal
        rw [show (x 2).val / 256 = t.val by omega]
        have hi : i = ValueIdx.ix3 (0 : Fin 1) (i 1) (i 2) := by
          funext a
          match a with
          | ⟨0, _⟩ => exact Fin.ext (by have : (i 0).val < 1 := (i 0).isLt; show (i 0).val = 0; omega)
          | ⟨1, _⟩ => rfl
          | ⟨2, _⟩ => rfl
        rw [hi]
        refine Eq.trans ?_ (ValueIdx.shapeCast_ab_1ab_apply (resVal m c t.val) squeezes_S1x1024x256_S1024x256.numel_eq.symm 0 (i 1) (i 2)).symm
        refine congrArg (resVal m c t.val) (funext fun a => ?_)
        match a with
        | ⟨0, _⟩ => exact Fin.ext h1
        | ⟨1, _⟩ => exact Fin.ext (show (x 2).val % 256 = (i 2).val by omega)
      refine (e _ ?_ ?_).symm
      · show 0 + 1 * (i 1).val = (i 1).val
        omega
      · show 256 * (t.val % 32) + 1 * (i 2).val = 256 * t.val + (i 2).val
        omega))))).trans
    (Entails.of_eq (owns_whole (c : Thread nD τ) main_v1_0 fullShare _))

omit [FloatOps F] in
theorem cols_cut : (free c a2 : sProp 𝕄) ⊢ bigSep (Finset.range 32) fun j => free c (outCol j) :=
  free_cut c cols_strips a2 outCol (fun t X => (own_squeeze c _ squeezes_S1x1024x256_S1024x256 squeezes_S1x1024x256_S1024x256.numel_eq X).trans (own_free c _ _))

omit [FloatOps F] in
theorem recv_cut : (free c a3 : sProp 𝕄) ⊢ bigSep (Finset.range 32) fun j => free c (recvSlot j) :=
  free_cut c slots_strips a3 recvSlot (fun t X => (own_squeeze c _ squeezes_S1x1024x256_S1024x256 squeezes_S1x1024x256_S1024x256.numel_eq X).trans (own_free c _ _))

omit [FloatOps F] in
theorem recv_join [∀ e, Nonempty (Elt F e)] : (bigSep (Finset.range 32) fun j => free c (recvSlot j) : sProp 𝕄) ⊢ free c a3 :=
  free_join c slots_strips a3 recvSlot (fun t v => (own_unsqueeze c _ squeezes_S1x1024x256_S1024x256 squeezes_S1x1024x256_S1024x256.numel_eq.symm v).trans (own_free c _ _))

omit [FloatOps F] in
theorem wo_cut : (free c a5 : sProp 𝕄) ⊢ bigSep (Finset.range 2) fun j => free c (woSlot j) :=
  free_cut c slots_strips a5 woSlot (fun t X => (own_squeeze c _ squeezes_S1x4096x256_S4096x256 squeezes_S1x4096x256_S4096x256.numel_eq X).trans (own_free c _ _))

omit [FloatOps F] in
theorem wo_join [∀ e, Nonempty (Elt F e)] : (bigSep (Finset.range 2) fun j => free c (woSlot j) : sProp 𝕄) ⊢ free c a5 :=
  free_join c slots_strips a5 woSlot (fun t v => (own_unsqueeze c _ squeezes_S1x4096x256_S4096x256 squeezes_S1x4096x256_S4096x256.numel_eq.symm v).trans (own_free c _ _))

omit [FloatOps F] in
theorem ring_cut : (free c a6 : sProp 𝕄) ⊢ bigSep (Finset.range 5) fun j => free c (ringSlot j) :=
  free_cut c slots_strips a6 ringSlot (fun t X => (own_squeeze c _ squeezes_S1x1024x256_S1024x256 squeezes_S1x1024x256_S1024x256.numel_eq X).trans (own_free c _ _))

omit [FloatOps F] in
theorem ring_join [∀ e, Nonempty (Elt F e)] : (bigSep (Finset.range 5) fun j => free c (ringSlot j) : sProp 𝕄) ⊢ free c a6 :=
  free_join c slots_strips a6 ringSlot (fun t v => (own_unsqueeze c _ squeezes_S1x1024x256_S1024x256 squeezes_S1x1024x256_S1024x256.numel_eq.symm v).trans (own_free c _ _))

omit [FloatOps F] in
theorem send_cut : (free c a7 : sProp 𝕄) ⊢ bigSep (Finset.range 2) fun j => free c (sendSlot j) :=
  free_cut c slots_strips a7 sendSlot (fun t X => (own_squeeze c _ squeezes_S1x1024x256_S1024x256 squeezes_S1x1024x256_S1024x256.numel_eq X).trans (own_free c _ _))

omit [FloatOps F] in
theorem send_join [∀ e, Nonempty (Elt F e)] : (bigSep (Finset.range 2) fun j => free c (sendSlot j) : sProp 𝕄) ⊢ free c a7 :=
  free_join c slots_strips a7 sendSlot (fun t v => (own_unsqueeze c _ squeezes_S1x1024x256_S1024x256 squeezes_S1x1024x256_S1024x256.numel_eq.symm v).trans (own_free c _ _))

omit [FloatOps F] in
theorem add_cut : (free c a8 : sProp 𝕄) ⊢ bigSep (Finset.range 2) fun j => free c (addSlot j) :=
  free_cut c slots_strips a8 addSlot (fun t X => (own_squeeze c _ squeezes_S1x1024x256_S1024x256 squeezes_S1x1024x256_S1024x256.numel_eq X).trans (own_free c _ _))

omit [FloatOps F] in
theorem add_join [∀ e, Nonempty (Elt F e)] : (bigSep (Finset.range 2) fun j => free c (addSlot j) : sProp 𝕄) ⊢ free c a8 :=
  free_join c slots_strips a8 addSlot (fun t v => (own_unsqueeze c _ squeezes_S1x1024x256_S1024x256 squeezes_S1x1024x256_S1024x256.numel_eq.symm v).trans (own_free c _ _))

omit [FloatOps F] in
theorem res_cut : (free c a9 : sProp 𝕄) ⊢ bigSep (Finset.range 2) fun j => free c (resSlot j) :=
  free_cut c slots_strips a9 resSlot (fun t X => (own_squeeze c _ squeezes_S1x1024x256_S1024x256 squeezes_S1x1024x256_S1024x256.numel_eq X).trans (own_free c _ _))

omit [FloatOps F] in
theorem res_join [∀ e, Nonempty (Elt F e)] : (bigSep (Finset.range 2) fun j => free c (resSlot j) : sProp 𝕄) ⊢ free c a9 :=
  free_join c slots_strips a9 resSlot (fun t v => (own_unsqueeze c _ squeezes_S1x1024x256_S1024x256 squeezes_S1x1024x256_S1024x256.numel_eq.symm v).trans (own_free c _ _))

end Buffers

end Cert.Pair

end
-- ==== Proof.Turn.lean ====
/- The main loop and the rounds after it, started from the staged matrix. -/
module

public import proofs.«01_k».proof.Proof.Late
public import proofs.«01_k».proof.Proof.Imports
public import proofs.«01_k».proof.Proof.Cut

@[expose] public section

set_option maxRecDepth 16384

noncomputable section

namespace Cert.Pair

open Cert.KernelIdeal Cert.KernelIdeal.Gen
open Idealize.ShloMosaic
open Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD)

/-- The heads, back where they came from. -/
def headsIn : sProp 𝕄 :=
  iprop((bigSep (Finset.range 32) fun j => own c (srcHead j) (headVal m c j)) ∗ bigSep (Finset.range 32) fun j => sem0 c (impSem j))

/-- Once every head is in, the staged matrix is whole. -/
theorem imports_done : imports m c 32 32 ⊢ iprop(own c a4 (xVal m c) ∗ headsIn m c) := by
  unfold imports headsIn
  rw [phases_done, bigSep_sep', bigSep_sep']
  iintro ⟨Hd, Hs, Hq⟩
  isplitl [Hd]
  · iapply (staged_join m c) $$ Hd
  isplitl [Hs] <;> iassumption

/-- What the main loop starts from, besides the staged matrix. -/
def loopPre : sProp 𝕄 := iprop(woInv m c 0 ∗ ring m c 0 ∗ sending c 0 ∗ peerSlots m c 0 ∗ tail m c 0)

section Loops
variable {Q : Unit → sProp (MT nD τ sig Unit (Elt F) ℕ UU ℕ)}

/-- The main loop. -/
theorem loop₁ (v5 v8 v9 v177 v179 : BitVec 32) :
    iprop((levAts L lv ∗ roundInv m c 0) ∗ (roundInv m c 32 -∗ Q ()))
      ⊢ Wp c (Scf.Loop.for k0_t1_loop k0_t1_ok () (k0_t1_body (F := F) a0 h0 a1 h1 a2 h2 a3 h3 a4 h4 a5 h5 a6 h6 a7 h7 a8 h8 a9 h9 a10 a11 a12 a13 a14 a15 c v5 v8 v9 v177 v179)) Q := by
  have hbody : ∀ (k : Fin k0_t1_loop.trips) (acc : Unit), iprop(levAts L lv ∗ roundInv m c k.val)
      ⊢ Wp c (k0_t1_body (F := F) a0 h0 a1 h1 a2 h2 a3 h3 a4 h4 a5 h5 a6 h6 a7 h7 a8 h8 a9 h9 a10 a11 a12 a13 a14 a15 c v5 v8 v9 v177 v179 k acc) (fun _ => iprop(levAts L lv ∗ roundInv m c (k.val + 1))) := by
    intro k acc
    iintro ⟨#Hlev, H⟩
    iapply (round m c k v5 v8 v9 v177 v179)
    isplitl [H]
    · isplitr; · iexact Hlev
      iexact H
    iintro H
    isplitr; · iexact Hlev
    iexact H
  iintro ⟨H, Hk⟩
  iapply (Scf.wp_for _ _ _ k0_t1_loop.lb k0_t1_loop.ub k0_t1_loop.st k0_t1_ok () _ (fun k _ => iprop(levAts L lv ∗ roundInv m c k)) hbody)
  isplitl [H]; · iexact H
  iintro %acc ⟨-, H⟩
  ihave H := (Entails.of_eq (congrArg (roundInv m c) (show Scf.trips k0_t1_loop.lb k0_t1_loop.ub k0_t1_loop.st = 32 from rfl))) $$ H
  iapply Hk $$ H

/-- The rounds after it. -/
theorem loop₂ (v5 v8 v9 : BitVec 32) :
    iprop((levAts L lv ∗ lateInv m c 0) ∗ (lateInv m c 4 -∗ Q ()))
      ⊢ Wp c (Scf.Loop.for k0_t2_loop k0_t2_ok () (k0_t2_body (F := F) a0 h0 a1 h1 a2 h2 a3 h3 a4 h4 a5 h5 a6 h6 a7 h7 a8 h8 a9 h9 a10 a11 a12 a13 a14 a15 v5 v8 v9)) Q := by
  have hbody : ∀ (k : Fin k0_t2_loop.trips) (acc : Unit), iprop(levAts L lv ∗ lateInv m c k.val)
      ⊢ Wp c (k0_t2_body (F := F) a0 h0 a1 h1 a2 h2 a3 h3 a4 h4 a5 h5 a6 h6 a7 h7 a8 h8 a9 h9 a10 a11 a12 a13 a14 a15 v5 v8 v9 k acc) (fun _ => iprop(levAts L lv ∗ lateInv m c (k.val + 1))) := by
    intro k acc
    iintro ⟨#Hlev, H⟩
    iapply (late m c k v5 v8 v9)
    isplitl [H]
    · isplitr; · iexact Hlev
      iexact H
    iintro H
    isplitr; · iexact Hlev
    iexact H
  iintro ⟨H, Hk⟩
  iapply (Scf.wp_for _ _ _ k0_t2_loop.lb k0_t2_loop.ub k0_t2_loop.st k0_t2_ok () _ (fun k _ => iprop(levAts L lv ∗ lateInv m c k)) hbody)
  isplitl [H]; · iexact H
  iintro %acc ⟨-, H⟩
  ihave H := (Entails.of_eq (congrArg (lateInv m c) (show Scf.trips k0_t2_loop.lb k0_t2_loop.ub k0_t2_loop.st = 4 from rfl))) $$ H
  iapply Hk $$ H

end Loops

section Part25
variable {Q : PUnit → sProp (MT nD τ sig Unit (Elt F) ℕ UU ℕ)}

set_option maxHeartbeats 800000 in
/-- The last heads are in; the main loop. -/
theorem part25 (v5 v8 v9 v177 v179 : BitVec 32) :
    iprop((levAts L lv ∗ (imports m c 28 32 ∗ Ow c (owed c 0)) ∗ loopPre m c)
      ∗ (iprop(headsIn m c ∗ roundInv m c 32) -∗ Q ⟨⟩))
      ⊢ Wp c (k0_part25 (F := F) a0 h0 a1 h1 a2 h2 a3 h3 a4 h4 a5 h5 a6 h6 a7 h7 a8 h8 a9 h9 a10 a11 a12 a13 a14 a15 c v5 v8 v9 v177 v179) Q := by
  simp only [k0_part25_eq_skeleton]; unfold k0_part25_skel
  simp only [semSignalWord, semWaitWord, Prog.lift, Prog.bind_op, Prog.bind_ret, Prog.pure_eq_ret]
  iintro ⟨⟨#Hlev, H, Hp⟩, Hk⟩
  iapply (step_imported m c 28 (by decide) rfl) $$ [H]; · isplitr; (· iexact Hlev); iexact H
  iintro H
  iapply (step_imported m c 29 (by decide) rfl) $$ [H]; · isplitr; (· iexact Hlev); iexact H
  iintro H
  iapply (step_imported m c 30 (by decide) rfl) $$ [H]; · isplitr; (· iexact Hlev); iexact H
  iintro H
  iapply (step_imported m c 31 (by decide) rfl) $$ [H]; · isplitr; (· iexact Hlev); iexact H
  iintro ⟨H, HO⟩
  ihave ⟨Hx, Hh⟩ := (imports_done m c) $$ H
  rw [wp_seq]
  iapply (loop₁ m c v5 v8 v9 v177 v179)
  unfold loopPre
  icases Hp with ⟨Hw, Hg, Hs, Hp, Ht⟩
  isplitl [Hx Hw Hg Hs Hp Ht HO]
  · isplitr; · iexact Hlev
    unfold roundInv
    isplitl [Hx]; · iexact Hx
    isplitl [Hw]; · iexact Hw
    isplitl [Hg]; · iexact Hg
    isplitl [Hs]; · iexact Hs
    isplitl [Hp]; · iexact Hp
    isplitl [Ht] <;> iassumption
  iintro H
  iapply (wp_done c)
  iapply Hk
  isplitl [Hh]; · iexact Hh
  iexact H

end Part25

end Cert.Pair

end
-- ==== Proof.Body.lean ====
/- The whole body of the kernel: the imports, the main loop, the rounds after it, the last waits. -/
module

public import proofs.«01_k».proof.Proof.Turn

@[expose] public section

set_option maxRecDepth 16384

noncomputable section

namespace Cert.Pair

open Cert.KernelIdeal Cert.KernelIdeal.Gen
open Idealize.ShloMosaic
open Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD)

/-- What the meeting at the barrier needs. -/
def meet : sProp 𝕄 :=
  iprop(Tick (peer c) (.reg barS) 1 (handed (peer c)) ∗ handed (peer c) ∗ Tock c (.reg barS) 1 (handed c) ∗ cred (tallyAt ((c : Thread nD τ), .reg barS) () 1))

/-- The cells of the partner that this device will credit. -/
def ticks : sProp 𝕄 :=
  bigSep (Finset.range 32) fun j => Tick (peer c) (.dma (recvSem j)) nSlab (own (peer c) (recvSlot j) (sndVal m c j))

/-- What the body starts from. -/
def entry : sProp 𝕄 :=
  iprop(imports m c 0 0 ∗ meet c ∗ fetch m c 0 0 ∗ woIdle c 0 ∗ woIdle c 1 ∗ ring m c 0 ∗ sending c 0 ∗ ticks m c ∗ tail m c 0
    ∗ Ow c (owed c 0 + tallyAt ((peer c : Thread nD τ), .reg barS) () 1))

/-- What is left of the main loop once it is through. -/
def leftover : sProp 𝕄 :=
  iprop(headsIn m c ∗ own c a4 (xVal m c) ∗ woInv m c 32 ∗ sendIdle c 0 ∗ sendIdle c 1 ∗ semVal ((c : Thread nD τ), .reg barS) 0)

/-- What the body ends with. -/
def exit : sProp 𝕄 :=
  iprop(leftover m c ∗ ring m c 32 ∗ recving m c 32 32 ∗ adding c ∗ outs m c 32 32 ∗ resIdle c 0 ∗ resIdle c 1 ∗ Ow c (owed c 32))

/-- The partner's slots, with the cells to credit. -/
theorem peerSlots_intro : iprop(ticks m c ∗ handed c) ⊢ peerSlots m c 0 := by
  unfold ticks handed peerSlots
  rw [phases_none]
  unfold peerSlot
  rw [bigSep_sep']

/-- Both slots for sending are under way after the main loop. -/
theorem sending_end : (sending c 32 : sProp 𝕄) ⊢ iprop(flySend c 0 ∗ flySend c 1) := by
  unfold sending
  rw [bigSep_eq_bigSepL_of_eq [0, 1] (by decide) (by decide)]
  exact Entails.of_eq rfl

/-- The two buffers for results alternate. -/
theorem resIdle_of (s t : ℕ) (h : s % 2 = t % 2) : (resIdle c s : sProp 𝕄) ⊢ resIdle c t := by
  rw [← resIdle_mod c s, h, resIdle_mod c t]

section Part26
variable {Q : PUnit → sProp (MT nD τ sig Unit (Elt F) ℕ UU ℕ)}

set_option maxHeartbeats 800000 in
/-- Everything but the very last wait. -/
theorem part26 :
    iprop((levAts L lv ∗ entry m c)
      ∗ (iprop(leftover m c ∗ ring m c 32 ∗ recving m c 32 32 ∗ adding c ∗ outs m c 31 32 ∗ resIdle c 0 ∗ Ow c (owed c 32)) -∗ Q ⟨⟩))
      ⊢ Wp c (k0_part26 (F := F) a0 h0 a1 h1 a2 h2 a3 h3 a4 h4 a5 h5 a6 h6 a7 h7 a8 h8 a9 h9 a10 a11 a12 a13 a14 a15) Q := by
  simp only [k0_part26_eq_skeleton]; unfold k0_part26_skel
  simp only [semSignalWord, semWaitWord, Prog.lift, Prog.bind_op, Prog.bind_ret, Prog.pure_eq_ret]
  unfold entry
  iintro ⟨⟨#Hlev, H, Hm, Hf, Hi, Hi', Hg, Hs, Hp, Ht, HO⟩, Hk⟩
  rw [wp_seq]
  iapply (part11 m c)
  isplitl [H]; · iexact H
  iintro H %x %p %q %r %s %hx
  subst hx
  rw [wp_seq]
  iapply (part12 m x)
  isplitl [H]; · iexact H
  iintro H
  rw [wp_seq]
  iapply (part13 m x)
  isplitl [H]; · iexact H
  iintro H
  rw [wp_seq]
  iapply (part14 m x)
  isplitl [H]; · iexact H
  iintro H
  rw [wp_seq]
  iapply (part15 m x)
  isplitl [H]; · iexact H
  iintro H
  rw [wp_seq]
  iapply (part16 m x)
  isplitl [H]; · iexact H
  iintro H
  rw [wp_seq]
  iapply (part17 m x)
  isplitl [H]; · iexact H
  iintro H
  rw [wp_seq]
  iapply (part18 m x)
  unfold meet
  isplitl [H Hm Hf Hi Hi' HO]
  · isplitr; · iexact Hlev
    isplitl [H]; · iexact H
    isplitl [Hm]; · iexact Hm
    isplitl [Hf]; · iexact Hf
    isplitl [Hi]; · iexact Hi
    isplitl [Hi'] <;> iassumption
  iintro ⟨H, Hd, Hv, Hw, HO⟩ %y
  ihave H := (show iprop(imports m x 0 32 ∗ Ow x (owed x 0)) ⊢ iprop(imports m x 0 32 ∗ Ow x (owed x 0)) from Entails.of_eq rfl) $$ [H HO]
  · isplitl [H] <;> iassumption
  ihave Hp := (peerSlots_intro m x) $$ [Hp Hd]
  · isplitl [Hp] <;> iassumption
  rw [wp_seq]
  iapply (part19 m x)
  isplitr; · iexact Hlev
  isplitl [H]; · iexact H
  iintro H
  rw [wp_seq]
  iapply (part20 m x)
  isplitr; · iexact Hlev
  isplitl [H]; · iexact H
  iintro H
  rw [wp_seq]
  iapply (part21 m x)
  isplitr; · iexact Hlev
  isplitl [H]; · iexact H
  iintro H
  rw [wp_seq]
  iapply (part22 m x)
  isplitr; · iexact Hlev
  isplitl [H]; · iexact H
  iintro H
  rw [wp_seq]
  iapply (part23 m x)
  isplitr; · iexact Hlev
  isplitl [H]; · iexact H
  iintro H
  rw [wp_seq]
  iapply (part24 m x)
  isplitr; · iexact Hlev
  isplitl [H]; · iexact H
  iintro H
  rw [wp_seq]
  iapply (part25 m x)
  isplitl [H Hw Hg Hs Hp Ht]
  · isplitr; · iexact Hlev
    isplitl [H]; · iexact H
    unfold loopPre
    isplitl [Hw]; · iexact Hw
    isplitl [Hg]; · iexact Hg
    isplitl [Hs]; · iexact Hs
    isplitl [Hp] <;> iassumption
  unfold roundInv
  iintro ⟨Hh, Hx, Hw, Hg, Hs, -, Ht, HO⟩
  ihave ⟨Hs, Hs'⟩ := (sending_end x) $$ Hs
  unfold flySend
  icases Hs with ⟨%u, Hs⟩
  icases Hs' with ⟨%u', Hs'⟩
  iapply (wp_wait x (sendSem_eq 0 (by rfl)) (by rfl) (rlev_send 0)) $$ [Hs HO]
  · isplitr; · iexact Hlev
    isplitl [Hs] <;> iassumption
  iintro ⟨Hs, Hq, HO⟩
  iapply (wp_wait x (sendSem_eq 1 (by rfl)) (by rfl) (rlev_send 1)) $$ [Hs' HO]
  · isplitr; · iexact Hlev
    isplitl [Hs'] <;> iassumption
  iintro ⟨Hs', Hq', HO⟩
  rw [wp_seq]
  iapply (loop₂ m x)
  isplitl [Hg Ht HO]
  · isplitr; · iexact Hlev
    unfold lateInv
    isplitl [Hg]; · iexact Hg
    isplitl [Ht] <;> iassumption
  iintro H
  have e₀ : lateInv m x 4 ⊢ iprop(ring m x 32 ∗ recving m x 32 32 ∗ adding x ∗ outs m x 30 32 ∗ Ow x (owed x 32)) := by
    unfold lateInv tail resInv
    iintro ⟨Hg, ⟨Hr, Ha, Ho, -⟩, HO⟩
    isplitl [Hg]; · iexact Hg
    isplitl [Hr]; · iexact Hr
    isplitl [Ha]; · iexact Ha
    isplitl [Ho] <;> iassumption
  ihave ⟨Hg, Hr, Ha, Ho, HO⟩ := e₀ $$ H
  have e₁ : outs m x 30 32 ⊢ iprop(flyRes m x 30 ∗ (own x (outCol 30) (resVal m x 30) -∗ outs m x 31 32)) := phases_end (by decide) (by decide)
  ihave ⟨Hf, Ho⟩ := e₁ $$ Ho
  unfold flyRes
  iapply (wp_wait x (resSem_eq 30 (by rfl)) (by rfl) (rlev_res 30)) $$ [Hf HO]
  · isplitr; · iexact Hlev
    isplitl [Hf] <;> iassumption
  iintro ⟨⟨Hc, Hd⟩, Hq'', HO⟩
  iapply (wp_done x)
  iapply Hk
  ihave Ho := Ho $$ Hc
  unfold leftover sendIdle
  isplitl [Hh Hx Hw Hs Hq Hs' Hq' Hv]
  · isplitl [Hh]; · iexact Hh
    isplitl [Hx]; · iexact Hx
    isplitl [Hw]; · iexact Hw
    isplitl [Hs Hq]
    · isplitl [Hs]; · iapply (own_free x _ _) $$ Hs
      iexact Hq
    isplitl [Hs' Hq']
    · isplitl [Hs']; · iapply (own_free x _ _) $$ Hs'
      iexact Hq'
    iexact Hv
  isplitl [Hg]; · iexact Hg
  isplitl [Hr]; · iexact Hr
  isplitl [Ha]; · iexact Ha
  isplitl [Ho]; · iexact Ho
  isplitl [Hd Hq'']
  · iapply (resIdle_of x 30 0 (by decide))
    unfold resIdle
    isplitl [Hd]; · iapply (own_free x _ _) $$ Hd
    iexact Hq''
  iexact HO

set_option maxHeartbeats 800000 in
/-- The whole body. -/
theorem body :
    iprop((levAts L lv ∗ entry m c) ∗ (exit m c -∗ Q ⟨⟩))
      ⊢ Wp c (cc0_body (F := F) a0 h0 a1 h1 a2 h2 a3 h3 a4 h4 a5 h5 a6 h6 a7 h7 a8 h8 a9 h9 a10 a11 a12 a13 a14 a15) Q := by
  simp only [cc0_body_eq_skeleton]; unfold cc0_body_skel
  simp only [semSignalWord, semWaitWord, Prog.lift, Prog.bind_op, Prog.bind_ret, Prog.pure_eq_ret]
  iintro ⟨⟨#Hlev, H⟩, Hk⟩
  rw [wp_seq]
  iapply (part26 m c)
  isplitl [H]
  · isplitr; · iexact Hlev
    iexact H
  iintro ⟨Hl, Hg, Hr, Ha, Ho, Hi, HO⟩
  have e₁ : outs m c 31 32 ⊢ iprop(flyRes m c 31 ∗ (own c (outCol 31) (resVal m c 31) -∗ outs m c 32 32)) := phases_end (by decide) (by decide)
  ihave ⟨Hf, Ho⟩ := e₁ $$ Ho
  unfold flyRes
  iapply (wp_wait c (resSem_eq 31 (by rfl)) (by rfl) (rlev_res 31)) $$ [Hf HO]
  · isplitr; · iexact Hlev
    isplitl [Hf] <;> iassumption
  iintro ⟨⟨Hc, Hd⟩, Hq, HO⟩
  iapply (wp_done c)
  iapply Hk
  ihave Ho := Ho $$ Hc
  unfold exit
  isplitl [Hl]; · iexact Hl
  isplitl [Hg]; · iexact Hg
  isplitl [Hr]; · iexact Hr
  isplitl [Ha]; · iexact Ha
  isplitl [Ho]; · iexact Ho
  isplitl [Hi]; · iexact Hi
  isplitl [Hd Hq]
  · iapply (resIdle_of c 31 1 (by decide))
    unfold resIdle
    isplitl [Hd]; · iapply (own_free c _ _) $$ Hd
    iexact Hq
  iexact HO

end Part26

end Cert.Pair

end
-- ==== Proof.Deal.lean ====
/- What the launch hands out: the semaphores, the cells the devices meet and send through, and the credits they owe. -/
module

public import proofs.«01_k».proof.Proof.Body

@[expose] public section

set_option maxRecDepth 16384

noncomputable section

namespace Cert.Pair

open Cert.KernelIdeal Cert.KernelIdeal.Gen
open Idealize.ShloMosaic
open Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD)

/-! ## The semaphores -/

/-- The kernel's own semaphores, array by array. -/
abbrev SemIx : Type := Fin 32 ⊕ Fin 2 ⊕ Fin 2 ⊕ Fin 32 ⊕ Fin 2 ⊕ Fin 2
abbrev qsem : SemIx → DmaSem sig :=
  Sum.elim (fun i => impSem i.val) (Sum.elim (fun i => woSem i.val) (Sum.elim (fun i => sendSem i.val)
    (Sum.elim (fun i => recvSem i.val) (Sum.elim (fun i => addSem i.val) (fun i => resSem i.val)))))
abbrev osem : SemIx → SemLoc sig := fun k => .dma (qsem k)

/-- The number of a semaphore of the kernel. -/
def numOf : SemIx → ℕ :=
  Sum.elim (fun i => i.val) (Sum.elim (fun i => 32 + i.val) (Sum.elim (fun i => 34 + i.val)
    (Sum.elim (fun i => 36 + i.val) (Sum.elim (fun i => 68 + i.val) (fun i => 70 + i.val)))))

theorem qsem_val : ∀ k, (qsem k).val = numOf k := by decide +kernel

theorem numOf_inj : Function.Injective numOf := by
  rintro (i | i | i | i | i | i) (j | j | j | j | j | j) h <;>
    (simp only [numOf, Sum.elim_inl, Sum.elim_inr] at h
     have := i.isLt
     have := j.isLt
     first
       | omega
       | (have e : i = j := Fin.ext (by omega)
          rw [e]))

theorem ownSemFacts : Pipeline.OwnSemFacts cfg0.spec osem where
  isScoped := by decide +kernel
  inj := fun k k' h => numOf_inj (by
    rw [← qsem_val, ← qsem_val]
    exact congrArg Fin.val (SemLoc.dma.inj h))
  disj := fun k w => w.elim0

/-- The kernel's semaphores at zero, but for the receiving ones. -/
def sems : sProp 𝕄 :=
  iprop((bigSep (Finset.range 32) fun j => sem0 c (impSem j)) ∗ (bigSep (Finset.range 2) fun j => sem0 c (woSem j))
    ∗ (bigSep (Finset.range 2) fun j => sem0 c (sendSem j)) ∗ (bigSep (Finset.range 2) fun j => sem0 c (addSem j))
    ∗ bigSep (Finset.range 2) fun j => sem0 c (resSem j))

omit [FloatOps F] in
theorem ownSems0_eq : (Pipeline.ownSems0 (Ix := Unit) (Name := ℕ) (U := UU) (Lvl := ℕ) (Val := Elt F) (τ := τ) osem c : sProp 𝕄)
    = iprop((bigSep (Finset.range 32) fun j => sem0 c (impSem j)) ∗ (bigSep (Finset.range 2) fun j => sem0 c (woSem j))
      ∗ (bigSep (Finset.range 2) fun j => sem0 c (sendSem j)) ∗ (bigSep (Finset.range 32) fun j => sem0 c (recvSem j))
      ∗ (bigSep (Finset.range 2) fun j => sem0 c (addSem j)) ∗ bigSep (Finset.range 2) fun j => sem0 c (resSem j)) := by
  unfold Pipeline.ownSems0
  rw [bigSep_univ_sum, bigSep_univ_sum, bigSep_univ_sum, bigSep_univ_sum, bigSep_univ_sum,
    bigSep_range, bigSep_range, bigSep_range, bigSep_range, bigSep_range, bigSep_range]
  rfl

omit [FloatOps F] in
/-- The barrier is the launch's one semaphore that is not the kernel's. -/
theorem unscopedSems0_eq : (unscopedSems0 c : sProp 𝕄) = semVal ((c : Thread nD τ), .reg barS) 0 := by
  unfold unscopedSems0; rw [bigSep_eq_bigSepL_of_eq [SemLoc.reg barS] (by decide) (by decide)]; rfl

/-! ## The cells dealt out -/

/-- The device's halves of the cells its partner will credit. -/
def tocks : sProp 𝕄 :=
  bigSep (Finset.range 32) fun j => Tock c (.dma (recvSem j)) nSlab (own c (recvSlot j) (rcvVal m c j))

/-- What the launch makes for a device: its semaphores, its halves of the cells it waits on, and its halves of its
    partner's cells. -/
def dealt : sProp 𝕄 :=
  iprop(sems c ∗ Tock c (.reg barS) 1 (handed c) ∗ tocks m c ∗ Tick (peer c) (.reg barS) 1 (handed (peer c)) ∗ ticks m c)

/-- What a device keeps of what is made for it. -/
def kept : sProp 𝕄 := iprop(sems c ∗ Tock c (.reg barS) 1 (handed c) ∗ tocks m c)

/-- The same before the exchange: both halves of the device's own cells. -/
def minted : sProp 𝕄 :=
  iprop(kept m c ∗ Tick c (.reg barS) 1 (handed c)
    ∗ bigSep (Finset.range 32) fun j => Tick c (.dma (recvSem j)) nSlab (own c (recvSlot j) (rcvVal m c j)))

theorem mint :
    iprop(Pipeline.ownSems0 (Ix := Unit) (Name := ℕ) (U := UU) (Lvl := ℕ) (Val := Elt F) (τ := τ) osem c ∗ unscopedSems0 c ∗ emp)
      ⊢ |={Set.univ}=> minted m c := by
  rw [ownSems0_eq, unscopedSems0_eq]
  unfold minted kept sems tocks
  iintro ⟨⟨Hi, Hw, Hs, Hr, Ha, Ho⟩, Hb, -⟩
  imod (cell_alloc c (.reg barS) 1 (by decide) (handed c)) $$ Hb with ⟨Ht, Hk⟩
  have e : (bigSep (Finset.range 32) fun j => sem0 c (recvSem j) : sProp 𝕄)
      ⊢ |={Set.univ}=> bigSep (Finset.range 32) fun j => iprop(Tick c (.dma (recvSem j)) nSlab (own c (recvSlot j) (rcvVal m c j))
        ∗ Tock c (.dma (recvSem j)) nSlab (own c (recvSlot j) (rcvVal m c j))) :=
    (bigSep_mono fun j _ => cell_alloc c (.dma (recvSem j)) nSlab (View.dmaCredit_pos (recvSlot 0).view (by decide)) _).trans (bigSep_fupd _ _)
  imod e $$ Hr with Hr
  ihave Hr := (Entails.of_eq (bigSep_sep' _ _ _)) $$ Hr
  icases Hr with ⟨Ht', Hk'⟩
  imodintro
  isplitl [Hi Hw Hs Ha Ho Hk Hk']
  · isplitl [Hi Hw Hs Ha Ho]
    · isplitl [Hi]; · iexact Hi
      isplitl [Hw]; · iexact Hw
      isplitl [Hs]; · iexact Hs
      isplitl [Ha] <;> iassumption
    isplitl [Hk] <;> iassumption
  isplitl [Ht] <;> iassumption

/-- What is kept and what the partner gives make up what is dealt. -/
theorem settle : iprop(kept m c ∗ Tick (swap c) (.reg barS) 1 (handed (swap c)) ∗ ticks m c) ⊢ dealt m c := by
  unfold kept dealt
  rw [show swap c = peer c from rfl]
  iintro ⟨⟨Hs, Hk, Hk'⟩, Ht, Ht'⟩
  isplitl [Hs]; · iexact Hs
  isplitl [Hk]; · iexact Hk
  isplitl [Hk']; · iexact Hk'
  isplitl [Ht] <;> iassumption

/-- The partners exchange the halves that credit. -/
theorem exchange : (bigSep Finset.univ fun c : Dev nD => minted m c : sProp 𝕄) ⊢ bigSep Finset.univ fun c : Dev nD => dealt m c := by
  have e : ∀ c : Dev nD, (bigSep (Finset.range 32) fun j => Tick (swap c) (.dma (recvSem j)) nSlab (own (swap c) (recvSlot j) (rcvVal m (swap c) j)) : sProp 𝕄) = ticks m c := by
    intro c
    unfold ticks rcvVal
    exact bigSep_congr fun j _ => by
      rw [show swap c = peer c from rfl, peer_peer]
  unfold minted
  rw [bigSep_sep', bigSep_sep',
    bigSep_univ_equiv swap (fun c : Dev nD => (Tick c (.reg barS) 1 (handed c) : sProp 𝕄)),
    bigSep_univ_equiv swap (fun c : Dev nD => (bigSep (Finset.range 32) fun j => Tick c (.dma (recvSem j)) nSlab (own c (recvSlot j) (rcvVal m c j)) : sProp 𝕄)),
    bigSep_congr (s := Finset.univ) fun c _ => e c, ← bigSep_sep', ← bigSep_sep']
  exact bigSep_mono fun c _ => settle m c

/-- The devices' semaphores, all at once, become what each is dealt. -/
theorem deal : (bigSep Finset.univ fun c => iprop(Pipeline.ownSems0 (Ix := Unit) (Name := ℕ) (U := UU) (Lvl := ℕ) (Val := Elt F) (τ := τ) osem c ∗ unscopedSems0 c ∗ emp) : sProp 𝕄)
    ⊢ |={Set.univ}=> bigSep Finset.univ fun c => dealt m c :=
  ((bigSep_mono fun c _ => mint m c).trans (bigSep_fupd _ _)).trans (BI.fupd_mono (exchange m))

/-! ## The credits -/

/-- What a device owes at launch: its partner's slots, and the meeting at its partner's barrier. -/
def O₀ (c : Dev nD) : CellTallies nD τ sig Unit := owed c 0 + tallyAt ((peer c : Thread nD τ), .reg barS) () 1

theorem peer_eq_iff {d e : Dev nD} : Iff (e = peer d) (d = peer e) :=
  ⟨fun h => by rw [h, peer_peer], fun h => by rw [h, peer_peer]⟩

theorem owed_bar (d : Dev nD) : O₀ d ((c : Thread nD τ), .reg barS) () = if d = peer c then 1 else 0 := by
  unfold O₀ owed
  rw [Pi.add_apply, Finsupp.add_apply, Finset.sum_apply, Finsupp.finset_sum_apply, Finset.sum_eq_zero, Nat.zero_add, tallyAt_apply]
  · by_cases h : d = peer c
    · rw [if_pos h, if_pos ⟨by rw [h, peer_peer], rfl⟩]
    · rw [if_neg h, if_neg fun h' => h (peer_eq_iff.mp (congrArg (fun g : GSem nD τ sig => g.1.1) h'.1))]
  · intro j _
    rw [tallyAt_apply, if_neg fun h' => by cases congrArg Prod.snd h'.1]

theorem owed_recv (d : Dev nD) (i : ℕ) (hi : i < 32) :
    O₀ d ((c : Thread nD τ), .dma (recvSem i)) () = if d = peer c then nSlab else 0 := by
  unfold O₀ owed
  rw [Pi.add_apply, Finsupp.add_apply, Finset.sum_apply, Finsupp.finset_sum_apply, tallyAt_apply,
    if_neg (fun h' => by cases congrArg Prod.snd h'.1), Nat.add_zero]
  by_cases h : d = peer c
  · rw [if_pos h, Finset.sum_eq_single i, tallyAt_apply, if_pos ⟨by rw [h, peer_peer], rfl⟩]
    · intro j hj hne
      have hj' := Finset.mem_Ico.mp hj
      rw [tallyAt_apply, if_neg]
      intro h'
      have := congrArg Fin.val (SemLoc.dma.inj (congrArg Prod.snd h'.1))
      rw [recvSem_val, recvSem_val] at this
      omega
    · intro hn
      exact absurd (Finset.mem_Ico.mpr ⟨Nat.zero_le i, hi⟩) hn
  · rw [if_neg h]
    exact Finset.sum_eq_zero fun j _ => by
      rw [tallyAt_apply, if_neg fun h' => h (peer_eq_iff.mp (congrArg (fun g : GSem nD τ sig => g.1.1) h'.1))]

theorem launch_bar :
    tallyOn ((c : Thread nD τ), .reg barS) (launchCredit (Pipeline.owing O₀) 0 ((c : Thread nD τ), .reg barS))
      = (tallyAt ((c : Thread nD τ), .reg barS) () 1 : CellTallies nD τ sig Unit) := by
  unfold tallyAt; refine congrArg _ (Finsupp.ext fun u => ?_); cases u
  rw [Pipeline.launchCredit_owing, Finsupp.single_eq_same, Finset.sum_congr rfl fun d _ => owed_bar c d,
    Finset.sum_ite_eq' Finset.univ (peer c) fun _ => 1, if_pos (Finset.mem_univ _)]

theorem launch_recv (i : ℕ) (hi : i < 32) :
    tallyOn ((c : Thread nD τ), .dma (recvSem i)) (launchCredit (Pipeline.owing O₀) 0 ((c : Thread nD τ), .dma (recvSem i)))
      = (tallyAt ((c : Thread nD τ), .dma (recvSem i)) () nSlab : CellTallies nD τ sig Unit) := by
  unfold tallyAt; refine congrArg _ (Finsupp.ext fun u => ?_); cases u
  rw [Pipeline.launchCredit_owing, Finsupp.single_eq_same, Finset.sum_congr rfl fun d _ => owed_recv c d i hi,
    Finset.sum_ite_eq' Finset.univ (peer c) fun _ => nSlab, if_pos (Finset.mem_univ _)]

/-- The receiving semaphores among all. -/
def recvLoc : Fin 32 ↪ SemLoc sig where
  toFun i := .dma (recvSem i.val)
  inj' i j h := Fin.ext (by
    have := congrArg Fin.val (SemLoc.dma.inj h)
    rw [recvSem_val, recvSem_val] at this
    have := i.isLt
    have := j.isLt
    omega)

omit [FloatOps F] in
/-- A device's credits at launch: one unit at its barrier, a chunk's at each receiving semaphore. -/
theorem creds :
    (Pipeline.launchCred O₀ c : sProp 𝕄) ⊢ iprop(cred (tallyAt ((c : Thread nD τ), .reg barS) () 1)
      ∗ bigSep (Finset.range 32) fun j => cred (tallyAt ((c : Thread nD τ), .dma (recvSem j)) () nSlab)) := by
  unfold Pipeline.launchCred
  rw [bigSep_univ_at _ (SemLoc.reg barS), launch_bar]
  refine sep_mono_right ?_
  have hs : Finset.univ.map recvLoc ⊆ Finset.univ.erase (SemLoc.reg barS) := by
    intro x hx
    obtain ⟨i, _, rfl⟩ := Finset.mem_map.mp hx
    exact Finset.mem_erase.mpr ⟨fun h => (by cases h), Finset.mem_univ _⟩
  have e : ∀ Φ : SemLoc sig → sProp 𝕄, bigSep (Finset.univ.erase (SemLoc.reg barS)) Φ ⊢ bigSep (Finset.univ.map recvLoc) Φ :=
    fun Φ => bigSep_subset hs
  refine (e _).trans ?_
  rw [bigSep_map, bigSep_range]
  exact Entails.of_eq (bigSep_congr fun i _ => congrArg cred (launch_recv c i.val i.isLt))

end Cert.Pair

end
-- ==== Proof.Gate.lean ====
/- From what the launch gives a device to what its body starts from, and from what the body ends with to what the launch takes back. -/
module

public import proofs.«01_k».proof.Proof.Deal

@[expose] public section

set_option maxRecDepth 16384

noncomputable section

namespace Cert.Pair

open Cert.KernelIdeal Cert.KernelIdeal.Gen
open Idealize.ShloMosaic
open Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD)

omit [FloatOps F] in
/-- A whole buffer at some contents. -/
theorem free_whole (b : Ref sig .tc) :
    (free c (Memref.whole b) : sProp 𝕄) = iprop(∃ f : Buf (Elt F) ((c : Thread nD τ).loc b), ((c : Thread nD τ).loc b) ↦{fullShare} f) := by
  unfold free own
  simp only [owns_whole]

/-- A device's scratch buffers. -/
def scratch : sProp 𝕄 := iprop(free c a4 ∗ free c a5 ∗ free c a6 ∗ free c a7 ∗ free c a8 ∗ free c a9)

omit [FloatOps F] in
theorem scratch_eq :
    (Pipeline.scopedRest (Ix := Unit) (Name := ℕ) (U := UU) (Lvl := ℕ) (Val := Elt F) (cfg0.spec) c : sProp 𝕄) = scratch c := by
  unfold scratch
  rw [scopedRest0_eq, free_whole, free_whole, free_whole, free_whole, free_whole, free_whole]

/-- A device's arguments, as launched. -/
def args : sProp 𝕄 :=
  iprop(((c : Thread nD τ).loc main_arg0 ↦{fullShare} m ((c : Thread nD τ).loc main_arg0))
    ∗ ((c : Thread nD τ).loc main_arg1 ↦{fullShare} m ((c : Thread nD τ).loc main_arg1)))

/-- What a device's kernel is entered with, besides its scratch buffers. -/
def start : sProp 𝕄 :=
  iprop(levAts L lv ∗ dealt m c
    ∗ (cred (tallyAt ((c : Thread nD τ), .reg barS) () 1) ∗ bigSep (Finset.range 32) fun j => cred (tallyAt ((c : Thread nD τ), .dma (recvSem j)) () nSlab))
    ∗ args m c ∗ free c a2 ∗ free c a3)

/-- What a device's kernel leaves: the arguments as they were, the result, the barrier at zero. -/
def done : sProp 𝕄 :=
  iprop((args m c ∗ ((c : Thread nD τ).loc main_v1_0 ↦{fullShare} outVal m c)) ∗ unscopedSems0 c)

/-! ## Entering -/

omit [FloatOps F] in
/-- Two families over two slots, one pair per slot. -/
theorem pair_up (Φ Ψ : ℕ → sProp 𝕄) :
    iprop((bigSep (Finset.range 2) Φ) ∗ bigSep (Finset.range 2) Ψ) = bigSep (Finset.range 2) fun j => iprop(Φ j ∗ Ψ j) :=
  (bigSep_sep' _ _ _).symm

omit [FloatOps F] in
theorem two (Φ : ℕ → sProp 𝕄) : bigSep (Finset.range 2) Φ = iprop(Φ 0 ∗ Φ 1) := by
  rw [bigSep_eq_bigSepL_of_eq [0, 1] (by decide) (by decide)]; rfl

theorem imports_begin :
    iprop(((c : Thread nD τ).loc main_arg0 ↦{fullShare} m ((c : Thread nD τ).loc main_arg0)) ∗ free c a4 ∗ bigSep (Finset.range 32) fun j => sem0 c (impSem j))
      ⊢ imports m c 0 0 := by
  unfold imports
  rw [phases_none, bigSep_sep', bigSep_sep']
  iintro ⟨Ha, Hs, Hq⟩
  isplitl [Ha]; · iapply (heads_cut m c) $$ Ha
  isplitl [Hs]; · iapply (staged_cut c) $$ Hs
  iexact Hq

omit [FloatOps F] in
theorem woIdle_begin : iprop(free c a5 ∗ bigSep (Finset.range 2) fun j => sem0 c (woSem j)) ⊢ (iprop(woIdle c 0 ∗ woIdle c 1) : sProp 𝕄) := by
  rw [← two (woIdle c)]
  unfold woIdle
  rw [bigSep_sep']
  iintro ⟨H, Hq⟩
  isplitl [H]; · iapply (wo_cut c) $$ H
  iexact Hq

theorem ring_begin : (free c a6 : sProp 𝕄) ⊢ ring m c 0 := by
  have e : ∀ s ∈ Finset.range 5, (free c (ringSlot s) : sProp 𝕄) ⊢ iprop(∃ v, ⌜∀ j, j < 0 → 0 ≤ j + 5 → j % 5 = s → v = ownVal m c j⌝ ∗ own c (ringSlot s) v) := by
    intro s _
    unfold free
    iintro ⟨%v, H⟩
    iexists v
    isplitr
    · ipureintro
      exact fun j h => absurd h (Nat.not_lt_zero j)
    iexact H
  unfold ring
  exact (ring_cut c).trans (bigSep_mono e)

omit [FloatOps F] in
theorem sending_begin : iprop(free c a7 ∗ bigSep (Finset.range 2) fun j => sem0 c (sendSem j)) ⊢ (sending c 0 : sProp 𝕄) := by
  have e : (sending c 0 : sProp 𝕄) = bigSep (Finset.range 2) (sendIdle c) :=
    bigSep_congr fun s _ => if_neg (Nat.not_lt_zero s)
  rw [e]
  unfold sendIdle
  rw [bigSep_sep']
  iintro ⟨H, Hq⟩
  isplitl [H]; · iapply (send_cut c) $$ H
  iexact Hq

theorem recving_begin : iprop(tocks m c ∗ bigSep (Finset.range 32) fun j => cred (tallyAt ((c : Thread nD τ), .dma (recvSem j)) () nSlab)) ⊢ recving m c 0 0 := by
  unfold tocks recving
  rw [phases_none, ← bigSep_sep']
  exact bigSep_mono fun j _ => tock_fly c (.dma (recvSem j)) nSlab _

omit [FloatOps F] in
theorem adding_begin : iprop(free c a8 ∗ bigSep (Finset.range 2) fun j => sem0 c (addSem j)) ⊢ (adding c : sProp 𝕄) := by
  unfold adding addIdle
  rw [bigSep_sep']
  iintro ⟨H, Hq⟩
  isplitl [H]; · iapply (add_cut c) $$ H
  iexact Hq

theorem resInv_start : iprop(free c a2 ∗ free c a9 ∗ bigSep (Finset.range 2) fun j => sem0 c (resSem j)) ⊢ resInv m c 0 := by
  have e : (resRest c 0 : sProp 𝕄) = bigSep (Finset.range 2) (resIdle c) :=
    bigSep_congr fun s _ => if_neg (Nat.not_lt_zero s)
  unfold resInv outs
  rw [show 0 - 2 = 0 from rfl, phases_none, e]
  unfold resIdle
  rw [bigSep_sep']
  iintro ⟨H, H', Hq⟩
  isplitl [H]; · iapply (cols_cut c) $$ H
  isplitl [H']; · iapply (res_cut c) $$ H'
  iexact Hq

set_option maxHeartbeats 800000 in
/-- What the launch gives a device is what its body starts from. -/
theorem enter : iprop((start m c ∗ scratch c) ∗ Ow c (O₀ c)) ⊢ iprop((levAts L lv ∗ entry m c) : sProp 𝕄) := by
  unfold start dealt sems args scratch entry meet tail O₀
  iintro ⟨⟨⟨Hlev, ⟨⟨Qi, Qw, Qs, Qa, Qo⟩, Hb, Hk, Ht, Hts⟩, ⟨Cb, Cr⟩, ⟨A0, A1⟩, A2, A3⟩, A4, A5, A6, A7, A8, A9⟩, HO⟩
  isplitl [Hlev]; · iexact Hlev
  isplitl [A0 A4 Qi]
  · iapply (imports_begin m c)
    isplitl [A0]; · iexact A0
    isplitl [A4] <;> iassumption
  isplitl [Ht A3 Hb Cb]
  · isplitl [Ht]; · iexact Ht
    isplitl [A3]
    · unfold handed
      rw [peer_peer]
      iapply (recv_cut c) $$ A3
    isplitl [Hb] <;> iassumption
  isplitl [A1]
  · unfold fetch
    rw [phases_none]
    iapply (chunks_cut m c) $$ A1
  ihave ⟨W0, W1⟩ := (woIdle_begin c) $$ [A5 Qw]
  · isplitl [A5] <;> iassumption
  isplitl [W0]; · iexact W0
  isplitl [W1]; · iexact W1
  isplitl [A6]; · iapply (ring_begin m c) $$ A6
  isplitl [A7 Qs]
  · iapply (sending_begin c)
    isplitl [A7] <;> iassumption
  isplitl [Hts]; · iexact Hts
  isplitl [Hk Cr A8 Qa A2 A9 Qo]
  · isplitl [Hk Cr]
    · iapply (recving_begin m c)
      isplitl [Hk] <;> iassumption
    isplitl [A8 Qa]
    · iapply (adding_begin c)
      isplitl [A8] <;> iassumption
    iapply (resInv_start m c)
    isplitl [A2]; · iexact A2
    isplitl [A9] <;> iassumption
  iexact HO

/-! ## Leaving -/

theorem fetch_end : iprop(fetch m c 32 33) ⊢ ((c : Thread nD τ).loc main_arg1 ↦{fullShare} m ((c : Thread nD τ).loc main_arg1) : sProp 𝕄) := by
  unfold fetch
  rw [phases_done]
  exact chunks_join m c

theorem wo_end : iprop(woIdle c 33 ∗ woIdle c 32) ⊢ (iprop(free c a5 ∗ bigSep (Finset.range 2) fun j => sem0 c (woSem j)) : sProp 𝕄) := by
  have e : ∀ j, (woIdle c (j % 2) : sProp 𝕄) = woIdle c j := fun j => by
    unfold woIdle; rw [woSlot_mod, woSem_mod]
  rw [← e 33, ← e 32]
  have h : (bigSep (Finset.range 2) (woIdle c) : sProp 𝕄) ⊢ iprop(free c a5 ∗ bigSep (Finset.range 2) fun j => sem0 c (woSem j)) := by
    unfold woIdle
    rw [bigSep_sep']
    iintro ⟨H, Hq⟩
    isplitl [H]; · iapply (wo_join c) $$ H
    iexact Hq
  rw [two] at h
  iintro ⟨H, H'⟩
  iapply h
  isplitl [H'] <;> iassumption

theorem ring_end : ring m c 32 ⊢ free c a6 := by
  have e : ∀ s ∈ Finset.range 5, iprop(∃ v, ⌜∀ j, j < 32 → 32 ≤ j + 5 → j % 5 = s → v = ownVal m c j⌝ ∗ own c (ringSlot s) v) ⊢ (free c (ringSlot s) : sProp 𝕄) := by
    intro s _
    unfold free
    iintro ⟨%v, -, H⟩
    iexists v
    iexact H
  have e' : (ring m c 32 : sProp 𝕄) ⊢ bigSep (Finset.range 5) fun s => free c (ringSlot s) := bigSep_mono e
  exact e'.trans (ring_join c)

theorem send_end : iprop(sendIdle c 0 ∗ sendIdle c 1) ⊢ (iprop(free c a7 ∗ bigSep (Finset.range 2) fun j => sem0 c (sendSem j)) : sProp 𝕄) := by
  rw [← two (sendIdle c)]
  unfold sendIdle
  rw [bigSep_sep']
  iintro ⟨H, Hq⟩
  isplitl [H]; · iapply (send_join c) $$ H
  iexact Hq

theorem recving_end : recving m c 32 32 ⊢ iprop(bigSep (Finset.range 32) fun j => sem0 c (recvSem j)) := by
  unfold recving
  rw [phases_done, bigSep_sep']
  iintro ⟨-, H⟩
  iexact H

theorem adding_end : (adding c : sProp 𝕄) ⊢ iprop(free c a8 ∗ bigSep (Finset.range 2) fun j => sem0 c (addSem j)) := by
  unfold adding addIdle
  rw [bigSep_sep']
  iintro ⟨H, Hq⟩
  isplitl [H]; · iapply (add_join c) $$ H
  iexact Hq

theorem outs_end : outs m c 32 32 ⊢ ((c : Thread nD τ).loc main_v1_0 ↦{fullShare} outVal m c : sProp 𝕄) := by
  unfold outs
  rw [phases_done]
  exact cols_join m c

theorem res_end : iprop(resIdle c 0 ∗ resIdle c 1) ⊢ (iprop(free c a9 ∗ bigSep (Finset.range 2) fun j => sem0 c (resSem j)) : sProp 𝕄) := by
  rw [← two (resIdle c)]
  unfold resIdle
  rw [bigSep_sep']
  iintro ⟨H, Hq⟩
  isplitl [H]; · iapply (res_join c) $$ H
  iexact Hq

/-- What a device's kernel gives back: besides what it leaves, its own semaphores at zero and its scratch buffers. -/
def back : sProp 𝕄 :=
  iprop(done m c ∗ Pipeline.ownSems0 (Ix := Unit) (Name := ℕ) (U := UU) (Lvl := ℕ) (Val := Elt F) (τ := τ) osem c ∗ scratch c)

set_option maxHeartbeats 800000 in
/-- What the body ends with is what the launch takes back. -/
theorem leave : exit m c ⊢ iprop((back m c ∗ Ow c 0) : sProp 𝕄) := by
  unfold exit leftover headsIn woInv woRest back done args scratch
  rw [ownSems0_eq, unscopedSems0_eq, owed_end, if_neg (show ¬ 32 < 32 by decide)]
  iintro ⟨⟨⟨Hh, Qi⟩, A4, ⟨Hf, W1, W0⟩, S0, S1, Hb⟩, Hg, Hr, Ha, Ho, R0, R1, HO⟩
  ihave ⟨A5, Qw⟩ := (wo_end c) $$ [W1 W0]
  · isplitl [W1] <;> iassumption
  ihave ⟨A7, Qs⟩ := (send_end c) $$ [S0 S1]
  · isplitl [S0] <;> iassumption
  ihave ⟨A8, Qa⟩ := (adding_end c) $$ Ha
  ihave ⟨A9, Qo⟩ := (res_end c) $$ [R0 R1]
  · isplitl [R0] <;> iassumption
  isplitr [HO]
  · isplitl [Hh Hf Ho Hb]
    · isplitl [Hh Hf Ho]
      · isplitl [Hh Hf]
        · isplitl [Hh]; · iapply (heads_join m c) $$ Hh
          iapply (fetch_end m c) $$ Hf
        iapply (outs_end m c) $$ Ho
      iexact Hb
    isplitl [Qi Qw Qs Hr Qa Qo]
    · isplitl [Qi]; · iexact Qi
      isplitl [Qw]; · iexact Qw
      isplitl [Qs]; · iexact Qs
      isplitl [Hr]; · iapply (recving_end m c) $$ Hr
      isplitl [Qa] <;> iassumption
    isplitl [A4]; · iapply (own_free c _ _) $$ A4
    isplitl [A5]; · iexact A5
    isplitl [Hg]; · iapply (ring_end m c) $$ Hg
    isplitl [A7]; · iexact A7
    isplitl [A8] <;> iassumption
  iexact HO

end Cert.Pair

end
-- ==== Proof.Launch.lean ====
/- The launch: every device's kernel under the pipeline's launch theorem, and what the run leaves. -/
module

public import proofs.«01_k».proof.Proof.Gate
public import Idealize.ShloMosaic.Lib.Pipeline.CollectiveSegs

@[expose] public section

set_option maxRecDepth 16384

noncomputable section

namespace Cert.Pair

open Cert.KernelIdeal Cert.KernelIdeal.Gen
open Idealize.ShloMosaic
open Idealize.ShloMosaic.TcCoe
open Idealize.ShloMosaic.Transfers
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-- What each device's body starts from. -/
def Φ₀ (c : Dev nD) : sProp 𝕄 := iprop(start m c ∗ scratch c)

/-- The region's data: no windows, the whole of a device's holdings in the invariant. -/
def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => back m c
  q _ := fullShare
  owed t := match t with
    | ⟨0, _⟩ => O₀ c
    | ⟨_ + 1, _⟩ => 0

/-- The kernel's body takes a device from what it starts with to what it leaves. -/
theorem device (c : Dev nD) :
    iprop(Φ₀ m c ∗ Ow c (O₀ c)) ⊢ Wp c (bodyAt0 (F := F) t0_0) fun _ => iprop(back m c ∗ Ow c 0) := by
  unfold Φ₀
  iintro H
  ihave H := (enter m c) $$ H
  iapply (body m c)
  isplitl [H]; · iexact H
  iintro H
  iapply (leave m c) $$ H

/-- What the body ends with, in the library's form. -/
theorem finish (c : Dev nD) :
    iprop(back m c ∗ Ow c 0) ⊢ iprop(back m c ∗ (dats (F := F) m 0 c).owesAt () (t0_0).succ ∗ emp) := by
  unfold Ow Pipeline.Dat.owesAt Pipeline.owesWithin
  iintro ⟨H, ⟨%W, HO⟩⟩
  isplitl [H]; · iexact H
  isplitl
  · iexists W
    isplitr
    · ipureintro; exact fun _ _ => Or.inl trivial
    iexact HO
  iempintro

/-- The library's body obligation on a device. -/
theorem body_obligation (c : Dev nD) : Pipeline.BodyObligation (dats (F := F) m 0 c) (defs₀ (F := F)) 𝒱₀ () Set.univ := fun t => by
  rw [fin_N0 t]
  rw [show (Finset.univ : Finset (Fin cfg0.W)) = ∅ from rfl, bigSep_empty, bigSep_empty]
  show iprop(Φ₀ m c ∗ (dats (F := F) m 0 c).owesAt () (t0_0).castSucc ∗ emp) ⊢ Wp c (bodyAt0 (F := F) t0_0) fun _ => iprop(back m c ∗ (dats (F := F) m 0 c).owesAt () (t0_0).succ ∗ emp)
  have h : iprop(Φ₀ m c ∗ Ow c (O₀ c)) ⊢ Wp c (bodyAt0 (F := F) t0_0) fun _ => iprop(back m c ∗ (dats (F := F) m 0 c).owesAt () (t0_0).succ ∗ emp) :=
    (device m c).trans (Idealize.SL.Sem.wp_mono _ _ _ fun _ => finish m c)
  unfold Pipeline.Dat.owesAt Pipeline.owesWithin at h ⊢
  iintro ⟨HS, ⟨%W, -, HO⟩, -⟩
  iapply h
  isplitl [HS]; · iexact HS
  unfold Ow
  iexists W
  iexact HO

/-! ## The launch -/

theorem share_eq (c : Dev nD) (w : Fin cfg0.W) : (dats m 0 c).share w = fullShare := w.elim0

theorem waits (c : Dev nD) : (levAts L lv : sProp 𝕄) ⊢ Pipeline.cellsWaits cfgs (dats m) () 0 c :=
  Pipeline.cellsWaits_intro cfgs (dats m) () 0 c fun w s t => w.elim0

/-- Nothing is asked of the ghost state beyond the pipeline's own tokens. -/
def u₀ : UU :=
  (initOf (Pipeline.cells cfgs cellOf_inj) (Pipeline.launchToks cfgs cellOf_inj), 1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  rw [Pipeline.unscopedRestP_none, unscopedRest0_eq]
  unfold start args
  rw [free_whole, free_whole]
  iintro ⟨⟨A0, A1, A2, A3⟩, Hlev, Hcr, -, HG⟩
  ihave Hc := (creds (F := F) c) $$ Hcr
  imodintro
  isplitl
  · isplitl [Hlev]; · iexact Hlev
    isplitl [HG]; · iexact HG
    isplitl [Hc]; · iexact Hc
    isplitl [A0 A1]
    · isplitl [A0] <;> iassumption
    isplitl [A2]
    · iexists _
      iexact A2
    iexists _
    iexact A3
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop(done m c ∗ Pipeline.ownSems0 osem c ∗ Pipeline.scopedRest cfg0.spec c) := by
  rw [show (dats m 0 c).Φ (Fin.last cfg0.N) = back m c from rfl, scratch_eq]
  unfold back
  iintro H
  iexact H

/-- What a device's memory holds at the end. -/
def QY (c : Dev nD) (s : MemSt nD τ sig (Elt F)) : Prop :=
  (s.mem ((c : Thread nD τ).loc main_v1_0) = outVal m c
    ∧ s.mem ((c : Thread nD τ).loc main_arg0) = m ((c : Thread nD τ).loc main_arg0)
    ∧ s.mem ((c : Thread nD τ).loc main_arg1) = m ((c : Thread nD τ).loc main_arg1))
  ∧ ∀ sm : SemLoc sig, sm.isScoped .tc = false → s.sem ((c : Thread nD τ), sm) = 0

theorem done_read (c : Dev nD) (s' : Phys nD τ sig (Elt F)) :
    iprop(done m c ∗ emp ∗ SI s') ⊢ |={Set.univ}=> iprop(⌜QY m c s'.mem⌝ ∗ SI s') := by
  unfold done args
  iintro ⟨⟨⟨⟨A0, A1⟩, A2⟩, Hu⟩, -, HSI⟩
  icombine HSI A0 gives %h0
  icombine HSI A1 gives %h1
  icombine HSI A2 gives %h2
  imod (Pipeline.unscopedSems0_read (X := unscopedSems0 c) (c := c) fupd_intro s') $$ [Hu HSI] with ⟨%h, HSI⟩
  · isplitl [Hu] <;> iassumption
  imodintro
  isplitr
  · ipureintro
    exact ⟨⟨Buf.eq_of_forall_mem_univ h2, Buf.eq_of_forall_mem_univ h0, Buf.eq_of_forall_mem_univ h1⟩, h⟩
  iexact HSI

/-- The ghost state a run starts from: the pipeline's tokens. -/
theorem fund : (ownU u₀ : sProp 𝕄) ⊢ |={Set.univ}=>
    iprop(BI.own (EP (initOf (Pipeline.cells cfgs cellOf_inj) (Pipeline.launchToks cfgs cellOf_inj)))
      ∗ bigSep Finset.univ fun _ : Dev nD => (iprop(emp) : sProp 𝕄)) := by
  have e : (iprop(emp) : sProp 𝕄) ⊢ bigSep Finset.univ fun _ : Dev nD => (iprop(emp) : sProp 𝕄) := Entails.of_eq (bigSep_emp_const _).symm
  unfold u₀
  iintro Hu
  ihave H := (ownU_pair _ _) $$ Hu
  icases H with ⟨HP, -⟩
  imodintro
  isplitl [HP]; · iexact HP
  iapply e
  iempintro

set_option maxHeartbeats 800000 in
/-- At the compiled mesh of thirty-two devices, for any float values, from any memory with zero counters: every weakly
    fair execution of the kernels terminates, and every final state has each device's result at the computed contents,
    its arguments as they were and every semaphore counter at zero. -/
theorem run_main : θ_run defs (onTc (τ := τ) (main (F := F))) ⟨m, fun _ => 0, ρ⟩ (fun r =>
    (∀ c : Dev nD, r.2.mem ((c : Thread nD τ).loc main_v1_0) = outVal m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := fun _ => iprop(emp)) (G' := dealt m) (u₀ := u₀)
    (hu₀ := fund)
    (hglob := deal m)
    (hA := fun _ w => w.elim0) (hpf := fun _ k => k.elim0)
    (X := start m) (Y := done m) (Z := fun _ => iprop(emp))
    (hX := start_intro m ρ) (hin := phi0_intro m) (hout := phi1_exit m)
    (QY := QY m) (hY := done_read m)
    (hQ := fun _ h hs => ⟨fun c => (h c).2.2.1, sem_eq_zero hs fun c => (h c).2.2.2⟩)

end Cert.Pair

end
-- ==== Proof.Value.lean ====
/- What a device's result holds over the extended reals: each entry two sums of products, its own and its partner's. -/
module

public import proofs.«01_k».proof.Proof.Launch
public import Idealize.ShloMosaic.Lib.MatmulPlain
public import Idealize.ShloMosaic.Lib.Pointwise.Contract
public import Idealize.ShloMosaic.Lib.ValueLayout

@[expose] public section

set_option maxRecDepth 16384

noncomputable section

namespace Cert.Pair

open Cert.KernelIdeal Cert.KernelIdeal.Gen
open Idealize.ShloMosaic
open Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (c : Dev nD)

/-- An entry of device `c`'s part of `O`. -/
def oAt (r : Fin 2048) (h : Fin 32) (d : Fin 128) : EReal := m ((c : Thread nD τ).loc main_arg0) (ValueIdx.ix4 (0 : Fin 1) r h d)
/-- An entry of device `c`'s part of `Wo`. -/
def wAt (k : Fin 4096) (q : Fin 8192) : EReal := m ((c : Thread nD τ).loc main_arg1) (ix2 k q)

/-- A head read at a row and a column. -/
theorem headVal_apply (h : Fin 32) (r : Fin 2048) (d : Fin 128) : headVal m c h.val (ix2 r d) = oAt m c r h d := by
  have hh := h.isLt
  have e : headVal m c h.val (ix2 r d) = m ((c : Thread nD τ).loc main_arg0)
      ((Rect.unit (s := S1x2048x32x128) ![0, 0, h.val % 32, 0] S1x2048x1x128.size (srcHead_inb h.val)).emb (ValueIdx.ix4 (0 : Fin 1) r (0 : Fin 1) d)) :=
    shapeCast_apply (fun j => m ((c : Thread nD τ).loc main_arg0)
      ((Rect.unit (s := S1x2048x32x128) ![0, 0, h.val % 32, 0] S1x2048x1x128.size (srcHead_inb h.val)).emb j))
      squeezes_S1x2048x1x128_S2048x128.numel_eq (ix2 r d) (ValueIdx.ix4 (0 : Fin 1) r (0 : Fin 1) d) (by
        rw [Shape.rowMajor_val_four, Shape.rowMajor_val_two]
        show ((0 * 2048 + r.val) * 1 + 0) * 128 + d.val = r.val * 128 + d.val
        omega)
  rw [e]
  refine congrArg (m ((c : Thread nD τ).loc main_arg0)) (funext fun a => ?_)
  match a with
  | ⟨0, _⟩ => rfl
  | ⟨1, _⟩ => exact Fin.ext (show 0 + 1 * r.val = r.val by omega)
  | ⟨2, _⟩ => exact Fin.ext (show h.val % 32 + 1 * 0 = h.val by omega)
  | ⟨3, _⟩ => exact Fin.ext (show 0 + 1 * d.val = d.val by omega)

/-- The matrix of a device's heads, read at a row and a column. -/
theorem xVal_apply (i : S2048x4096.Idx) (r : Fin 2048) (k : Fin 4096) (h0 : (i 0).val = r.val) (h1 : (i 1).val = k.val) :
    xVal m c i = oAt m c r ⟨k.val / 128, by omega⟩ ⟨k.val % 128, by omega⟩ := by
  unfold xVal
  rw [← headVal_apply m c ⟨k.val / 128, by omega⟩, show (i 1).val / 128 = k.val / 128 by rw [h1]]
  refine congrArg (headVal m c (k.val / 128)) (funext fun a => ?_)
  match a with
  | ⟨0, _⟩ => exact Fin.ext h0
  | ⟨1, _⟩ => exact Fin.ext (show (i 1).val % 128 = k.val % 128 by rw [h1])

/-- A chunk of a device's part of `Wo`, read at a row and a column. -/
theorem wVal_apply (j : Fin 32) (k : Fin 4096) (q : Fin 256) :
    wVal m c j.val (ix2 k q) = wAt m c k ⟨256 * j.val + q.val, by omega⟩ := by
  have hj := j.isLt
  refine congrArg (m ((c : Thread nD τ).loc main_arg1)) (funext fun a => ?_)
  match a with
  | ⟨0, _⟩ => exact Fin.ext (show 0 + 1 * k.val = k.val by omega)
  | ⟨1, _⟩ => exact Fin.ext (show 256 * (j.val % 32) + 1 * q.val = 256 * j.val + q.val by omega)

/-- A row of device `c`'s part of `O` times a column of its part of `Wo`. -/
def half (r : Fin 2048) (q : Fin 8192) : EReal :=
  ∑ k : Fin 4096, oAt m c r ⟨k.val / 128, by omega⟩ ⟨k.val % 128, by omega⟩ * wAt m c k q

/-- A partial product at an entry. -/
theorem product_apply (x : S1024x4096.Idx → Elt Ideal .f32) (w : S4096x256.Idx → Elt Ideal .f32) (r : Fin 1024) (q : Fin 256) :
    matmul (F := Ideal) (φ₁ := .f32) (φ₂ := .f32) dot_S1024x4096_S4096x256_S1024x256_1_0_0_1_n_n none x w (constant S1024x256 .f32 0x00000000#32) (ix2 r q)
      = ∑ k : Fin 4096, (x (ix2 r k) : EReal) * w (ix2 k q) := by
  refine (Ideal.matmul_constant_zero_apply dot_S1024x4096_S4096x256_S1024x256_1_0_0_1_n_n none x w (ix2 r q)).trans ?_
  rw [DotDims.sum_contr₁ dot_S1024x4096_S4096x256_S1024x256_1_0_0_1_n_n (a := (1 : Fin 2)) rfl (K := 4096) rfl]
  refine Finset.sum_congr rfl fun k _ => ?_
  refine congrArg₂ (· * ·) (congrArg x (funext fun a => ?_)) (congrArg w (funext fun a => ?_))
  · match a with
    | ⟨0, _⟩ => rfl
    | ⟨1, _⟩ => rfl
  · match a with
    | ⟨0, _⟩ => rfl
    | ⟨1, _⟩ => rfl

/-- The partial product a device keeps, at an entry. -/
theorem ownVal_apply (j : Fin 32) (r : Fin 1024) (q : Fin 256) :
    ownVal m c j.val (ix2 r q) = half m c ⟨1024 * (c.val / 16) + r.val, by have : c.val < 32 := c.isLt; omega⟩ ⟨256 * j.val + q.val, by omega⟩ := by
  unfold ownVal k0_pay2
  simp only [shapeCast_shapeCast]
  refine (product_apply _ _ r q).trans (Finset.sum_congr rfl fun k _ => congrArg₂ (· * ·) ?_ (wVal_apply m c j k q))
  exact xVal_apply m c _ ⟨1024 * (c.val / 16) + r.val, by have : c.val < 32 := c.isLt; omega⟩ k
    (by show k0_off11 c 0 + 1 * r.val = _; rw [k0_off11_eq]; show 1024 * (c.val / 16) + 1 * r.val = 1024 * (c.val / 16) + r.val; omega)
    (by show k0_off11 c 1 + 1 * k.val = _; rw [k0_off11_eq]; show 0 + 1 * k.val = k.val; omega)

/-- The partial product a device sends, at an entry. -/
theorem sndVal_apply (j : Fin 32) (r : Fin 1024) (q : Fin 256) :
    sndVal m c j.val (ix2 r q) = half m c ⟨1024 - 1024 * (c.val / 16) + r.val, by omega⟩ ⟨256 * j.val + q.val, by omega⟩ := by
  unfold sndVal k0_pay3
  simp only [shapeCast_shapeCast]
  refine (product_apply _ _ r q).trans (Finset.sum_congr rfl fun k _ => congrArg₂ (· * ·) ?_ (wVal_apply m c j k q))
  exact xVal_apply m c _ ⟨1024 - 1024 * (c.val / 16) + r.val, by omega⟩ k
    (by show k0_off17 c 0 + 1 * r.val = _; rw [k0_off17_eq]; show 1024 - 1024 * (c.val / 16) + 1 * r.val = 1024 - 1024 * (c.val / 16) + r.val; omega)
    (by show k0_off17 c 1 + 1 * k.val = _; rw [k0_off17_eq]; show 0 + 1 * k.val = k.val; omega)

/-- A device's result, at an entry. -/
theorem outVal_apply (r : Fin 1024) (q : Fin 8192) (R : Fin 2048) (hR : R.val = 1024 * (c.val / 16) + r.val) :
    outVal m c (ValueIdx.ix3 (0 : Fin 1) r q) = half m c R q + half m (peer c) R q := by
  have hc : c.val < 32 := c.isLt
  have e : ∀ (j : Fin 32) (p : Fin 256), resVal m c j.val (ix2 r p) = half m c R ⟨256 * j.val + p.val, by omega⟩ + half m (peer c) R ⟨256 * j.val + p.val, by omega⟩ := by
    intro j p
    unfold resVal k0_pay1 rcvVal
    simp only [shapeCast_shapeCast]
    refine congrArg₂ (· + ·) ((ownVal_apply m c j r p).trans ?_) ((sndVal_apply m (peer c) j r p).trans ?_)
    · exact congrArg (fun x => half m c x _) (Fin.ext hR.symm)
    · exact congrArg (fun x => half m (peer c) x _) (Fin.ext (by
        rw [hR]; show 1024 - 1024 * ((c.val + 16) % 32 / 16) + r.val = _; omega))
  have e' := e ⟨q.val / 256, by omega⟩ ⟨q.val % 256, by omega⟩
  have hq : (⟨256 * (q.val / 256) + q.val % 256, by omega⟩ : Fin 8192) = q := Fin.ext (by show 256 * (q.val / 256) + q.val % 256 = q.val; omega)
  simp only [hq] at e'
  exact e'

end Cert.Pair

end
-- ==== Proof.Whole.lean ====
/- The devices' results against the reference: the two halves of a sum of products are the whole. -/
module

public import proofs.«01_k».proof.Proof.Value
public import proofs.«01_k».proof.Proof.Gen.ReferenceIdeal.Run
public import Idealize.ShloMosaic.Lib.Layout

@[expose] public section

set_option maxRecDepth 16384

noncomputable section

namespace Cert.Pair

open Cert.KernelIdeal Cert.KernelIdeal.Gen
open Idealize.ShloMosaic
open Idealize.ShloMosaic.TcCoe
open Idealize.ShloMosaic.Transfers
open Idealize.SL Idealize.SL.RA Idealize.SL.BI
open scoped Idealize.SL.BI
open Idealize.SL.BI.BIBase Idealize.SL.BI.Laws Idealize.SL.ProofMode Idealize.SL.Sem

variable (o : Cert.ReferenceIdeal.S1x2048x64x128.Idx → EReal) (w : Cert.ReferenceIdeal.S8192x8192.Idx → EReal)

/-- The reference's product, as printed. -/
def whole : Cert.ReferenceIdeal.S1x2048x8192.Idx → EReal :=
  Host.dotGeneral (F := Ideal) (φ₁ := .f32) (φ₂ := .f32) Cert.ReferenceIdeal.dot_S1x2048x8192_S8192x8192_S1x2048x8192_2_0_01_1_n_n none
    (shapeCast Cert.ReferenceIdeal.S1x2048x8192 o Cert.ReferenceIdeal.Facts₀.shapeCasts_S1x2048x64x128_S1x2048x8192) w

/-- One product of the reference's sum. -/
def term (r : Fin 2048) (q : Fin 8192) (k : Fin 8192) : EReal :=
  o (ValueIdx.ix4 (0 : Fin 1) r (⟨k.val / 128, by omega⟩ : Fin 64) (⟨k.val % 128, by omega⟩ : Fin 128)) * w (ix2 k q)

/-- The reference's product at an entry. -/
theorem whole_apply (r : Fin 2048) (q : Fin 8192) : whole o w (ValueIdx.ix3 (0 : Fin 1) r q) = ∑ k : Fin 8192, term o w r q k := by
  unfold whole
  refine (Ideal.dotGeneral_apply Cert.ReferenceIdeal.dot_S1x2048x8192_S8192x8192_S1x2048x8192_2_0_01_1_n_n none _ _ w (ValueIdx.ix3 (0 : Fin 1) r q)).trans ?_
  rw [DotDims.sum_contr₁ Cert.ReferenceIdeal.dot_S1x2048x8192_S8192x8192_S1x2048x8192_2_0_01_1_n_n (a := (2 : Fin 3)) rfl (K := 8192) rfl]
  refine Finset.sum_congr rfl fun k _ => ?_
  refine congrArg₂ (· * ·) ?_ (congrArg w (funext fun a => ?_))
  · refine shapeCast_apply o _ _ (ValueIdx.ix4 (0 : Fin 1) r (⟨k.val / 128, by omega⟩ : Fin 64) (⟨k.val % 128, by omega⟩ : Fin 128)) ?_
    rw [Shape.rowMajor_val_four, Shape.rowMajor_val_three]
    show ((0 * 2048 + r.val) * 64 + k.val / 128) * 128 + k.val % 128 = (0 * 2048 + r.val) * 8192 + k.val
    omega
  · match a with
    | ⟨0, _⟩ => rfl
    | ⟨1, _⟩ => rfl

/-- Two sums over half the places each, one after the other, are one sum. -/
theorem sum_halves (f : Fin 8192 → EReal) :
    (∑ k : Fin 4096, f ⟨4096 * 0 + k.val, by omega⟩) + ∑ k : Fin 4096, f ⟨4096 * 1 + k.val, by omega⟩ = ∑ k : Fin 8192, f k := by
  refine ((Fin.sum_univ_add (M := EReal) (a := 4096) (b := 4096) f).trans ?_).symm
  refine congrArg₂ (· + ·) (Finset.sum_congr rfl fun k _ => congrArg f (Fin.ext ?_)) (Finset.sum_congr rfl fun k _ => congrArg f (Fin.ext ?_))
  · show k.val = 4096 * 0 + k.val
    omega
  · show 4096 + k.val = 4096 * 1 + k.val
    omega

variable (m : (ℓ : Loc nD τ sig) → Buf (Elt Ideal) ℓ)

/-- That each device's arguments are its parts of the reference's. -/
def Parts : Prop := ∀ c : Dev nD,
  m ((c : Thread nD τ).loc main_arg0) = Layout.blockN ⟨4, ![1, 2048, 32, 128]⟩ ⟨4, ![1, 2048, 64, 128]⟩ (Layout.meshBlock [2, 4, 4] ![[], [], [0], []] c) o
    ∧ m ((c : Thread nD τ).loc main_arg1) = Layout.blockN ⟨2, ![4096, 8192]⟩ ⟨2, ![8192, 8192]⟩ (Layout.meshBlock [2, 4, 4] ![[0], []] c) w

/-- The place of a device along the mesh's first axis. -/
theorem place (c : Dev nD) : Layout.meshLin [2, 4, 4] c.val [0] = c.val / 16 := by revert c; decide

variable {o w m}

/-- A device's sum of products is over its half of the reference's places. -/
theorem half_eq (H : Parts o w m) (c : Dev nD) (r : Fin 2048) (q : Fin 8192) :
    half m c r q = ∑ k : Fin 4096, term o w r q ⟨4096 * (c.val / 16) + k.val, by have : c.val < 32 := c.isLt; omega⟩ := by
  have hc : c.val < 32 := c.isLt
  refine Finset.sum_congr rfl fun k _ => congrArg₂ (· * ·) ?_ ?_
  · unfold oAt
    rw [(H c).1]
    refine congrArg o (funext fun a => ?_)
    match a with
    | ⟨0, _⟩ => rfl
    | ⟨1, _⟩ => exact Fin.ext (show 0 * 2048 + r.val = r.val by omega)
    | ⟨2, _⟩ => exact Fin.ext (show Layout.meshLin [2, 4, 4] c.val [0] * 32 + k.val / 128 = (4096 * (c.val / 16) + k.val) / 128 by rw [place]; omega)
    | ⟨3, _⟩ => exact Fin.ext (show 0 * 128 + k.val % 128 = (4096 * (c.val / 16) + k.val) % 128 by omega)
  · unfold wAt
    rw [(H c).2]
    refine congrArg w (funext fun a => ?_)
    match a with
    | ⟨0, _⟩ => exact Fin.ext (show Layout.meshLin [2, 4, 4] c.val [0] * 4096 + k.val = 4096 * (c.val / 16) + k.val by rw [place]; omega)
    | ⟨1, _⟩ => exact Fin.ext (show 0 * 8192 + q.val = q.val by omega)

/-- A device's sum and its partner's, added, are the reference's sum. -/
theorem halves (H : Parts o w m) (c : Dev nD) (r : Fin 2048) (q : Fin 8192) :
    half m c r q + half m (peer c) r q = ∑ k : Fin 8192, term o w r q k := by
  have hc : c.val < 32 := c.isLt
  have e : ∀ (d : Dev nD) (x : Fin 2), d.val / 16 = x.val → half m d r q = ∑ k : Fin 4096, term o w r q ⟨4096 * x.val + k.val, by omega⟩ := by
    intro d x h
    rw [half_eq H d]
    exact Finset.sum_congr rfl fun k _ => congrArg (term o w r q) (Fin.ext (by show 4096 * (d.val / 16) + k.val = 4096 * x.val + k.val; rw [h]))
  have hp : (peer c).val = (c.val + 16) % 32 := rfl
  by_cases h : c.val < 16
  · rw [e c 0 (by show c.val / 16 = 0; omega), e (peer c) 1 (by show (peer c).val / 16 = 1; omega)]
    exact sum_halves _
  · rw [e c 1 (by show c.val / 16 = 1; omega), e (peer c) 0 (by show (peer c).val / 16 = 0; omega), add_comm]
    exact sum_halves _

/-- Each device's result is its rows of the reference's. -/
theorem outVal_eq (H : Parts o w m) (c : Dev nD) :
    outVal m c = Layout.blockN ⟨3, ![1, 1024, 8192]⟩ ⟨3, ![1, 2048, 8192]⟩ (Layout.meshBlock [2, 4, 4] ![[], [0], []] c) (whole o w) := by
  have hc : c.val < 32 := c.isLt
  funext i
  have h0 : (i 0).val < 1 := (i 0).isLt
  have h1 : (i 1).val < 1024 := (i 1).isLt
  have h2 : (i 2).val < 8192 := (i 2).isLt
  obtain ⟨r, hr⟩ : ∃ r : Fin 1024, r.val = (i 1).val := ⟨⟨_, h1⟩, rfl⟩
  obtain ⟨q, hq⟩ : ∃ q : Fin 8192, q.val = (i 2).val := ⟨⟨_, h2⟩, rfl⟩
  have hi : i = ValueIdx.ix3 (0 : Fin 1) r q := by
    funext a
    match a with
    | ⟨0, _⟩ => exact Fin.ext (show (i 0).val = 0 by omega)
    | ⟨1, _⟩ => exact Fin.ext hr.symm
    | ⟨2, _⟩ => exact Fin.ext hq.symm
  rw [hi]
  refine (outVal_apply m c r q ⟨1024 * (c.val / 16) + r.val, by omega⟩ rfl).trans ((halves H c _ q).trans ((whole_apply o w _ q).symm.trans ?_))
  refine congrArg (whole o w) (funext fun a => ?_)
  match a with
  | ⟨0, _⟩ => rfl
  | ⟨1, _⟩ => exact Fin.ext (show 1024 * (c.val / 16) + r.val = Layout.meshLin [2, 4, 4] c.val [0] * 1024 + r.val by rw [place]; omega)
  | ⟨2, _⟩ => exact Fin.ext (show q.val = 0 * 8192 + q.val by omega)

end Cert.Pair

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Whole

@[expose] public section

noncomputable section

namespace Cert.Proof

open Idealize.ShloMosaic Idealize.ShloMosaic.TcCoe Idealize.SL.Sem

/-- The kernel's frame over the machine's words: every run ends, the arguments as they were and every semaphore at zero. -/
theorem frame_kernel : Cert.quiescent_Kernel := fun m ρ _ =>
  (θ_run Cert.KernelIdeal.defs _ _).mono (fun _ h => ⟨fun c => (h.1 c).2, h.2⟩) (Cert.Pair.run_main (F := Bits) m ρ)

/-- The kernel's frame over the extended reals. -/
theorem frame_ideal : Cert.quiescent_KernelIdeal := fun m ρ _ =>
  (θ_run Cert.KernelIdeal.defs _ _).mono (fun _ h => ⟨fun c => (h.1 c).2, h.2⟩) (Cert.Pair.run_main (F := Ideal) m ρ)

/-- The reference has no semaphore, so every counter is zero. -/
theorem no_sems (s : GSem Cert.ReferenceIdeal.nD Cert.ReferenceIdeal.τ Cert.ReferenceIdeal.sig → ℤ) : s = fun _ => 0 :=
  funext fun ⟨_, sm⟩ => match sm with
    | .reg k => k.elim0
    | .dma k => k.elim0

/-- The reference's frame. -/
theorem frame_reference : Cert.quiescent_ReferenceIdeal := fun m ρ _ =>
  (θ_run Cert.ReferenceIdeal.defs _ _).mono (fun r h => ⟨fun c => (h c).2, no_sems r.2.sem⟩) (Cert.ReferenceIdeal.Value.run (F := Ideal) m ρ)

/-- Each device's result is its rows of the reference's product. -/
theorem algebraic : Cert.algebraic_KernelIdeal_ReferenceIdeal := fun m ρ m' ρ' _ H =>
  ⟨Cert.Pair.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨((h.1 c).1).trans (Cert.Pair.outVal_eq H c), (h.1 c).2⟩)
      (Cert.Pair.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
